-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = Layout.blockN ⟨2, ![16384, 1024]⟩ ⟨2, ![16384, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16 : Shape := ⟨1, ![16]⟩
abbrev S_ : Shape := ⟨0, ![]⟩
abbrev S1 : Shape := ⟨1, ![1]⟩
abbrev S5 : Shape := ⟨1, ![5]⟩
abbrev S16384x1024 : Shape := ⟨2, ![16384, 1024]⟩
abbrev S1024x1024 : Shape := ⟨2, ![1024, 1024]⟩
abbrev S3 : Shape := ⟨1, ![3]⟩
abbrev S8 : Shape := ⟨1, ![8]⟩
abbrev S7 : Shape := ⟨1, ![7]⟩
abbrev S1x1024x1024 : Shape := ⟨3, ![1, 1024, 1024]⟩

abbrev nBuf : Space → Nat
  | .hbm => 64
  | .vmem => 3
  | .smem => 1
  | _ => 0

abbrev bufTy : (tb : Table) → Fin (tcTables nBuf tb) → BufTy
  | .hbm, ⟨0, _⟩ => ⟨S1x16384x2048, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S1, .i32⟩
  | .hbm, ⟨60, _⟩ => ⟨S1, .i32⟩
  | .hbm, ⟨61, _⟩ => ⟨S5, .i32⟩
  | .hbm, ⟨62, _⟩ => ⟨S16384x1024, .f32⟩
  | .hbm, ⟨63, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .smem, ⟨0, _⟩ => ⟨S5, .i32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 2 → Bool
  | ⟨0, _⟩ => false
  | ⟨1, _⟩ => true
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_6 : Ref sig .tc := ⟨.hbm, 12, rfl⟩
abbrev main_c_7 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_8 : Ref sig .tc := ⟨.hbm, 18, rfl⟩
abbrev main_v9 : Ref sig .tc := ⟨.hbm, 19, rfl⟩
abbrev main_v10 : Ref sig .tc := ⟨.hbm, 20, rfl⟩
abbrev main_c_9 : Ref sig .tc := ⟨.hbm, 21, rfl⟩
abbrev main_v11 : Ref sig .tc := ⟨.hbm, 22, rfl⟩
abbrev main_c_10 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_11 : Ref sig .tc := ⟨.hbm, 28, rfl⟩
abbrev main_v16 : Ref sig .tc := ⟨.hbm, 29, rfl⟩
abbrev main_c_12 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_13 : Ref sig .tc := ⟨.hbm, 35, rfl⟩
abbrev main_v21 : Ref sig .tc := ⟨.hbm, 36, rfl⟩
abbrev main_c_14 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_15 : Ref sig .tc := ⟨.hbm, 42, rfl⟩
abbrev main_v26 : Ref sig .tc := ⟨.hbm, 43, rfl⟩
abbrev main_c_16 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_17 : Ref sig .tc := ⟨.hbm, 49, rfl⟩
abbrev main_v31 : Ref sig .tc := ⟨.hbm, 50, rfl⟩
abbrev main_c_18 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_2 v2
  let c16_i32_6 : BitVec 32 := 16#32
  let v19 : BitVec 32 := Scalar.muli v14 c16_i32_6
  let v20 : BitVec 32 := Scalar.addi c0_i32 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v21 : BitVec 32 := Scalar.muli v5 c4_i32_7
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v23 : BitVec 32 := Scalar.muli v8 c1_i32_8
  let v24 : BitVec 32 := Scalar.addi v22 v23
  v24.toNat
def k0_dev2 (d0 : Dev nD) (v10 : BitVec 32) (v11 : BitVec 32) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v25 : BitVec 32 := Scalar.muli v2 c16_i32_10
  let v26 : BitVec 32 := Scalar.addi c0_i32_11 v25
  let c4_i32_12 : BitVec 32 := 4#32
  let v27 : BitVec 32 := Scalar.muli v10 c4_i32_12
  let v28 : BitVec 32 := Scalar.addi v26 v27
  let c1_i32_13 : BitVec 32 := 1#32
  let v29 : BitVec 32 := Scalar.muli v11 c1_i32_13
  let v30 : BitVec 32 := Scalar.addi v28 v29
  v30.toNat

def k0_dev3 (d0 : Dev nD) (v12 : BitVec 32) (v13 : BitVec 32) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v31 : BitVec 32 := Scalar.muli v2 c16_i32_15
  let v32 : BitVec 32 := Scalar.addi c0_i32_16 v31
  let c4_i32_17 : BitVec 32 := 4#32
  let v33 : BitVec 32 := Scalar.muli v12 c4_i32_17
  let v34 : BitVec 32 := Scalar.addi v32 v33
  let c1_i32_18 : BitVec 32 := 1#32
  let v35 : BitVec 32 := Scalar.muli v13 c1_i32_18
  let v36 : BitVec 32 := Scalar.addi v34 v35
  v36.toNat

def k0_off1 (v9 : BitVec 32) : Fin 2 → Nat :=
  let c1024_i32_20 : BitVec 32 := 1024#32
  let v38 : BitVec 32 := Scalar.muli v9 c1024_i32_20
  let c0_i32_26 : BitVec 32 := 0#32
  ![v38.toNat, 0]

def k0_off2 (d0 : Dev nD) (v9 : BitVec 32) : Fin 3 → Nat :=
  let c0_i32_21 : BitVec 32 := 0#32
  let c1024_i32_19 : BitVec 32 := 1024#32
  let v37 : BitVec 32 := Scalar.muli v9 c1024_i32_19
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v16 : BitVec 32 := Scalar.subi c1_i32_3 v2
  let c1024_i32_4 : BitVec 32 := 1024#32
  let v17 : BitVec 32 := Scalar.muli v16 c1024_i32_4
  ![0, v37.toNat, v17.toNat]
def k0_dev4 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_2 v2
  let c16_i32_22 : BitVec 32 := 16#32
  let v39 : BitVec 32 := Scalar.muli v14 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_dev5 (d0 : Dev nD) (v10 : BitVec 32) (v11 : BitVec 32) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v62 : BitVec 32 := Scalar.muli v2 c16_i32_40
  let v63 : BitVec 32 := Scalar.addi c0_i32_41 v62
  let c4_i32_42 : BitVec 32 := 4#32
  let v64 : BitVec 32 := Scalar.muli v10 c4_i32_42
  let v65 : BitVec 32 := Scalar.addi v63 v64
  let c1_i32_43 : BitVec 32 := 1#32
  let v66 : BitVec 32 := Scalar.muli v11 c1_i32_43
  let v67 : BitVec 32 := Scalar.addi v65 v66
  v67.toNat
def k0_dev6 (d0 : Dev nD) (v12 : BitVec 32) (v13 : BitVec 32) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v76 : BitVec 32 := Scalar.muli v2 c16_i32_50
  let v77 : BitVec 32 := Scalar.addi c0_i32_51 v76
  let c4_i32_52 : BitVec 32 := 4#32
  let v78 : BitVec 32 := Scalar.muli v12 c4_i32_52
  let v79 : BitVec 32 := Scalar.addi v77 v78
  let c1_i32_53 : BitVec 32 := 1#32
  let v80 : BitVec 32 := Scalar.muli v13 c1_i32_53
  let v81 : BitVec 32 := Scalar.addi v79 v80
  v81.toNat
def k0_off3 (d0 : Dev nD) (v9 : BitVec 32) : Fin 3 → Nat :=
  let c0_i32_58 : BitVec 32 := 0#32
  let c1024_i32_56 : BitVec 32 := 1024#32
  let v88 : BitVec 32 := Scalar.muli v9 c1024_i32_56
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v15 : BitVec 32 := Scalar.muli v2 c1024_i32
  ![0, v88.toNat, v15.toNat]
def k0_off4 (v9 : BitVec 32) (c0_i32_79 : BitVec 32) : Fin 2 → Nat :=
  let c16_i32_77 : BitVec 32 := 16#32
  let v117 : BitVec 32 := Scalar.addi v9 c16_i32_77
  let c1_i32_78 : BitVec 32 := 1#32
  let v118 : BitVec 32 := Scalar.subi v117 c1_i32_78
  let v119 : BitVec 32 := Scalar.subi v118 c0_i32_79
  let c16_i32_80 : BitVec 32 := 16#32
  let c0_i32_81 : BitVec 32 := 0#32
  let v120 : BitVec 1 := Scalar.cmpi .eq c16_i32_80 c0_i32_81
  let c1_i32_82 : BitVec 32 := 1#32
  let v121 : BitVec 32 := Scalar.select v120 c1_i32_82 c16_i32_80
  let v122 : BitVec 32 := Scalar.remsi v119 v121
  let c0_i32_84 : BitVec 32 := 0#32
  let v124 : BitVec 1 := Scalar.cmpi .slt v122 c0_i32_84
  let c0_i32_85 : BitVec 32 := 0#32
  let v125 : BitVec 1 := Scalar.cmpi .slt v121 c0_i32_85
  let v126 : BitVec 1 := Scalar.xori v124 v125
  let c0_i32_83 : BitVec 32 := 0#32
  let v123 : BitVec 1 := Scalar.cmpi .ne v122 c0_i32_83
  let v127 : BitVec 1 := Scalar.andi v126 v123
  let v128 : BitVec 32 := Scalar.addi v122 v121
  let v129 : BitVec 32 := Scalar.select v127 v128 v122
  let c1024_i32_87 : BitVec 32 := 1024#32
  let v131 : BitVec 32 := Scalar.muli v129 c1024_i32_87
  let c0_i32_94 : BitVec 32 := 0#32
  ![v131.toNat, 0]
def k0_dev7 (d0 : Dev nD) (v10 : BitVec 32) (v11 : BitVec 32) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v144 : BitVec 32 := Scalar.muli v2 c16_i32_100
  let v145 : BitVec 32 := Scalar.addi c0_i32_101 v144
  let c4_i32_102 : BitVec 32 := 4#32
  let v146 : BitVec 32 := Scalar.muli v10 c4_i32_102
  let v147 : BitVec 32 := Scalar.addi v145 v146
  let c1_i32_103 : BitVec 32 := 1#32
  let v148 : BitVec 32 := Scalar.muli v11 c1_i32_103
  let v149 : BitVec 32 := Scalar.addi v147 v148
  v149.toNat
def k0_off5 (v9 : BitVec 32) (c0_i32_107 : BitVec 32) : Fin 2 → Nat :=
  let c1_i32_106 : BitVec 32 := 1#32
  let v156 : BitVec 32 := Scalar.addi v9 c1_i32_106
  let v157 : BitVec 32 := Scalar.addi v156 c0_i32_107
  let c16_i32_108 : BitVec 32 := 16#32
  let c0_i32_109 : BitVec 32 := 0#32
  let v158 : BitVec 1 := Scalar.cmpi .eq c16_i32_108 c0_i32_109
  let c1_i32_110 : BitVec 32 := 1#32
  let v159 : BitVec 32 := Scalar.select v158 c1_i32_110 c16_i32_108
  let v160 : BitVec 32 := Scalar.remsi v157 v159
  let c0_i32_112 : BitVec 32 := 0#32
  let v162 : BitVec 1 := Scalar.cmpi .slt v160 c0_i32_112
  let c0_i32_113 : BitVec 32 := 0#32
  let v163 : BitVec 1 := Scalar.cmpi .slt v159 c0_i32_113
  let v164 : BitVec 1 := Scalar.xori v162 v163
  let c0_i32_111 : BitVec 32 := 0#32
  let v161 : BitVec 1 := Scalar.cmpi .ne v160 c0_i32_111
  let v165 : BitVec 1 := Scalar.andi v164 v161
  let v166 : BitVec 32 := Scalar.addi v160 v159
  let v167 : BitVec 32 := Scalar.select v165 v166 v160
  let c1024_i32_115 : BitVec 32 := 1024#32
  let v169 : BitVec 32 := Scalar.muli v167 c1024_i32_115
  let c0_i32_122 : BitVec 32 := 0#32
  ![v169.toNat, 0]
def k0_dev8 (d0 : Dev nD) (v12 : BitVec 32) (v13 : BitVec 32) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v182 : BitVec 32 := Scalar.muli v2 c16_i32_128
  let v183 : BitVec 32 := Scalar.addi c0_i32_129 v182
  let c4_i32_130 : BitVec 32 := 4#32
  let v184 : BitVec 32 := Scalar.muli v12 c4_i32_130
  let v185 : BitVec 32 := Scalar.addi v183 v184
  let c1_i32_131 : BitVec 32 := 1#32
  let v186 : BitVec 32 := Scalar.muli v13 c1_i32_131
  let v187 : BitVec 32 := Scalar.addi v185 v186
  v187.toNat
def k0_off6 (d0 : Dev nD) (v9 : BitVec 32) (c0_i32_79 : BitVec 32) : Fin 3 → Nat :=
  let c0_i32_136 : BitVec 32 := 0#32
  let c16_i32_77 : BitVec 32 := 16#32
  let v117 : BitVec 32 := Scalar.addi v9 c16_i32_77
  let c1_i32_78 : BitVec 32 := 1#32
  let v118 : BitVec 32 := Scalar.subi v117 c1_i32_78
  let v119 : BitVec 32 := Scalar.subi v118 c0_i32_79
  let c16_i32_80 : BitVec 32 := 16#32
  let c0_i32_81 : BitVec 32 := 0#32
  let v120 : BitVec 1 := Scalar.cmpi .eq c16_i32_80 c0_i32_81
  let c1_i32_82 : BitVec 32 := 1#32
  let v121 : BitVec 32 := Scalar.select v120 c1_i32_82 c16_i32_80
  let v122 : BitVec 32 := Scalar.remsi v119 v121
  let c0_i32_84 : BitVec 32 := 0#32
  let v124 : BitVec 1 := Scalar.cmpi .slt v122 c0_i32_84
  let c0_i32_85 : BitVec 32 := 0#32
  let v125 : BitVec 1 := Scalar.cmpi .slt v121 c0_i32_85
  let v126 : BitVec 1 := Scalar.xori v124 v125
  let c0_i32_83 : BitVec 32 := 0#32
  let v123 : BitVec 1 := Scalar.cmpi .ne v122 c0_i32_83
  let v127 : BitVec 1 := Scalar.andi v126 v123
  let v128 : BitVec 32 := Scalar.addi v122 v121
  let v129 : BitVec 32 := Scalar.select v127 v128 v122
  let c1024_i32_134 : BitVec 32 := 1024#32
  let v194 : BitVec 32 := Scalar.muli v129 c1024_i32_134
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v15 : BitVec 32 := Scalar.muli v2 c1024_i32
  ![0, v194.toNat, v15.toNat]
def k0_off7 (d0 : Dev nD) (v9 : BitVec 32) (c0_i32_107 : BitVec 32) : Fin 3 → Nat :=
  let c0_i32_157 : BitVec 32 := 0#32
  let c1_i32_106 : BitVec 32 := 1#32
  let v156 : BitVec 32 := Scalar.addi v9 c1_i32_106
  let v157 : BitVec 32 := Scalar.addi v156 c0_i32_107
  let c16_i32_108 : BitVec 32 := 16#32
  let c0_i32_109 : BitVec 32 := 0#32
  let v158 : BitVec 1 := Scalar.cmpi .eq c16_i32_108 c0_i32_109
  let c1_i32_110 : BitVec 32 := 1#32
  let v159 : BitVec 32 := Scalar.select v158 c1_i32_110 c16_i32_108
  let v160 : BitVec 32 := Scalar.remsi v157 v159
  let c0_i32_112 : BitVec 32 := 0#32
  let v162 : BitVec 1 := Scalar.cmpi .slt v160 c0_i32_112
  let c0_i32_113 : BitVec 32 := 0#32
  let v163 : BitVec 1 := Scalar.cmpi .slt v159 c0_i32_113
  let v164 : BitVec 1 := Scalar.xori v162 v163
  let c0_i32_111 : BitVec 32 := 0#32
  let v161 : BitVec 1 := Scalar.cmpi .ne v160 c0_i32_111
  let v165 : BitVec 1 := Scalar.andi v164 v161
  let v166 : BitVec 32 := Scalar.addi v160 v159
  let v167 : BitVec 32 := Scalar.select v165 v166 v160
  let c1024_i32_155 : BitVec 32 := 1024#32
  let v223 : BitVec 32 := Scalar.muli v167 c1024_i32_155
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v15 : BitVec 32 := Scalar.muli v2 c1024_i32
  ![0, v223.toNat, v15.toNat]

def k0_chk3 (d0 : Dev nD) (v9 : BitVec 32) : Prop :=
  (∀ a, (k0_off1 v9) a + S1024x1024.size a ≤ S16384x1024.size a) ∧
  (∀ a, (k0_off2 d0 v9) a + S1x1024x1024.size a ≤ S1x16384x2048.size a) ∧
  (∀ a, (k0_off3 d0 v9) a + S1x1024x1024.size a ≤ S1x16384x2048.size a) ∧
  (∀ (r : Fin 8), ∀ a, (k0_off4 v9 (BitVec.ofNat 32 r.val)) a + S1024x1024.size a ≤ S16384x1024.size a) ∧
  (∀ (r : Fin 7), ∀ a, (k0_off5 v9 (BitVec.ofNat 32 r.val)) a + S1024x1024.size a ≤ S16384x1024.size a) ∧
  (∀ (r : Fin 8), ∀ a, (k0_off6 d0 v9 (BitVec.ofNat 32 r.val)) a + S1x1024x1024.size a ≤ S1x16384x2048.size a) ∧
  (∀ (r : Fin 7), ∀ a, (k0_off7 d0 v9 (BitVec.ofNat 32 r.val)) a + S1x1024x1024.size a ≤ S1x16384x2048.size a)
theorem k0_off1_inb : ∀ (d0 : Dev nD) (v9 : BitVec 32) (k0_hw3 : k0_chk3 d0 v9), ∀ a, (k0_off1 v9) a + S1024x1024.size a ≤ S16384x1024.size a := fun d0 v9 k0_hw3 => k0_hw3.1
theorem k0_off2_inb : ∀ (d0 : Dev nD) (v9 : BitVec 32) (k0_hw3 : k0_chk3 d0 v9), ∀ a, (k0_off2 d0 v9) a + S1x1024x1024.size a ≤ S1x16384x2048.size a := fun d0 v9 k0_hw3 => k0_hw3.2.1
theorem k0_off3_inb : ∀ (d0 : Dev nD) (v9 : BitVec 32) (k0_hw3 : k0_chk3 d0 v9), ∀ a, (k0_off3 d0 v9) a + S1x1024x1024.size a ≤ S1x16384x2048.size a := fun d0 v9 k0_hw3 => k0_hw3.2.2.1
theorem k0_off4_inb : ∀ (d0 : Dev nD) (v9 : BitVec 32) (k0_hw3 : k0_chk3 d0 v9), ∀ (r : Fin 8), ∀ a, (k0_off4 v9 (BitVec.ofNat 32 r.val)) a + S1024x1024.size a ≤ S16384x1024.size a := fun d0 v9 k0_hw3 r => k0_hw3.2.2.2.1 r
theorem k0_off5_inb : ∀ (d0 : Dev nD) (v9 : BitVec 32) (k0_hw3 : k0_chk3 d0 v9), ∀ (r : Fin 7), ∀ a, (k0_off5 v9 (BitVec.ofNat 32 r.val)) a + S1024x1024.size a ≤ S16384x1024.size a := fun d0 v9 k0_hw3 r => k0_hw3.2.2.2.2.1 r
theorem k0_off6_inb : ∀ (d0 : Dev nD) (v9 : BitVec 32) (k0_hw3 : k0_chk3 d0 v9), ∀ (r : Fin 8), ∀ a, (k0_off6 d0 v9 (BitVec.ofNat 32 r.val)) a + S1x1024x1024.size a ≤ S1x16384x2048.size a := fun d0 v9 k0_hw3 r => k0_hw3.2.2.2.2.2.1 r
theorem k0_off7_inb : ∀ (d0 : Dev nD) (v9 : BitVec 32) (k0_hw3 : k0_chk3 d0 v9), ∀ (r : Fin 7), ∀ a, (k0_off7 d0 v9 (BitVec.ofNat 32 r.val)) a + S1x1024x1024.size a ≤ S1x16384x2048.size a := fun d0 v9 k0_hw3 r => k0_hw3.2.2.2.2.2.2 r

def k0_dev9 (d0 : Dev nD) (v10 : BitVec 32) (v11 : BitVec 32) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_199 : BitVec 32 := 16#32
  let v279 : BitVec 32 := Scalar.muli v2 c16_i32_199
  let v280 : BitVec 32 := Scalar.addi c0_i32_200 v279
  let c4_i32_201 : BitVec 32 := 4#32
  let v281 : BitVec 32 := Scalar.muli v10 c4_i32_201
  let v282 : BitVec 32 := Scalar.addi v280 v281
  let c1_i32_202 : BitVec 32 := 1#32
  let v283 : BitVec 32 := Scalar.muli v11 c1_i32_202
  let v284 : BitVec 32 := Scalar.addi v282 v283
  v284.toNat
def k0_dev10 (d0 : Dev nD) (v12 : BitVec 32) (v13 : BitVec 32) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v317 : BitVec 32 := Scalar.muli v2 c16_i32_227
  let v318 : BitVec 32 := Scalar.addi c0_i32_228 v317
  let c4_i32_229 : BitVec 32 := 4#32
  let v319 : BitVec 32 := Scalar.muli v12 c4_i32_229
  let v320 : BitVec 32 := Scalar.addi v318 v319
  let c1_i32_230 : BitVec 32 := 1#32
  let v321 : BitVec 32 := Scalar.muli v13 c1_i32_230
  let v322 : BitVec 32 := Scalar.addi v320 v321
  v322.toNat
def k0_dev11 (d0 : Dev nD) (v10 : BitVec 32) (v11 : BitVec 32) : Nat :=
  let c0_i32_299 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_298 : BitVec 32 := 16#32
  let v414 : BitVec 32 := Scalar.muli v2 c16_i32_298
  let v415 : BitVec 32 := Scalar.addi c0_i32_299 v414
  let c4_i32_300 : BitVec 32 := 4#32
  let v416 : BitVec 32 := Scalar.muli v10 c4_i32_300
  let v417 : BitVec 32 := Scalar.addi v415 v416
  let c1_i32_301 : BitVec 32 := 1#32
  let v418 : BitVec 32 := Scalar.muli v11 c1_i32_301
  let v419 : BitVec 32 := Scalar.addi v417 v418
  v419.toNat
def k0_dev12 (d0 : Dev nD) (v12 : BitVec 32) (v13 : BitVec 32) : Nat :=
  let c0_i32_327 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_326 : BitVec 32 := 16#32
  let v452 : BitVec 32 := Scalar.muli v2 c16_i32_326
  let v453 : BitVec 32 := Scalar.addi c0_i32_327 v452
  let c4_i32_328 : BitVec 32 := 4#32
  let v454 : BitVec 32 := Scalar.muli v12 c4_i32_328
  let v455 : BitVec 32 := Scalar.addi v453 v454
  let c1_i32_329 : BitVec 32 := 1#32
  let v456 : BitVec 32 := Scalar.muli v13 c1_i32_329
  let v457 : BitVec 32 := Scalar.addi v455 v456
  v457.toNat
def k0_dev13 (d0 : Dev nD) (v10 : BitVec 32) (v11 : BitVec 32) : Nat :=
  let c0_i32_398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_397 : BitVec 32 := 16#32
  let v549 : BitVec 32 := Scalar.muli v2 c16_i32_397
  let v550 : BitVec 32 := Scalar.addi c0_i32_398 v549
  let c4_i32_399 : BitVec 32 := 4#32
  let v551 : BitVec 32 := Scalar.muli v10 c4_i32_399
  let v552 : BitVec 32 := Scalar.addi v550 v551
  let c1_i32_400 : BitVec 32 := 1#32
  let v553 : BitVec 32 := Scalar.muli v11 c1_i32_400
  let v554 : BitVec 32 := Scalar.addi v552 v553
  v554.toNat
def k0_dev14 (d0 : Dev nD) (v12 : BitVec 32) (v13 : BitVec 32) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v587 : BitVec 32 := Scalar.muli v2 c16_i32_425
  let v588 : BitVec 32 := Scalar.addi c0_i32_426 v587
  let c4_i32_427 : BitVec 32 := 4#32
  let v589 : BitVec 32 := Scalar.muli v12 c4_i32_427
  let v590 : BitVec 32 := Scalar.addi v588 v589
  let c1_i32_428 : BitVec 32 := 1#32
  let v591 : BitVec 32 := Scalar.muli v13 c1_i32_428
  let v592 : BitVec 32 := Scalar.addi v590 v591
  v592.toNat
def k0_dev15 (d0 : Dev nD) (v10 : BitVec 32) (v11 : BitVec 32) : Nat :=
  let c0_i32_496 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_495 : BitVec 32 := 16#32
  let v684 : BitVec 32 := Scalar.muli v2 c16_i32_495
  let v685 : BitVec 32 := Scalar.addi c0_i32_496 v684
  let c4_i32_497 : BitVec 32 := 4#32
  let v686 : BitVec 32 := Scalar.muli v10 c4_i32_497
  let v687 : BitVec 32 := Scalar.addi v685 v686
  let c1_i32_498 : BitVec 32 := 1#32
  let v688 : BitVec 32 := Scalar.muli v11 c1_i32_498
  let v689 : BitVec 32 := Scalar.addi v687 v688
  v689.toNat
def k0_dev16 (d0 : Dev nD) (v12 : BitVec 32) (v13 : BitVec 32) : Nat :=
  let c0_i32_524 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_523 : BitVec 32 := 16#32
  let v722 : BitVec 32 := Scalar.muli v2 c16_i32_523
  let v723 : BitVec 32 := Scalar.addi c0_i32_524 v722
  let c4_i32_525 : BitVec 32 := 4#32
  let v724 : BitVec 32 := Scalar.muli v12 c4_i32_525
  let v725 : BitVec 32 := Scalar.addi v723 v724
  let c1_i32_526 : BitVec 32 := 1#32
  let v726 : BitVec 32 := Scalar.muli v13 c1_i32_526
  let v727 : BitVec 32 := Scalar.addi v725 v726
  v727.toNat
def k0_dev17 (d0 : Dev nD) (v10 : BitVec 32) (v11 : BitVec 32) : Nat :=
  let c0_i32_594 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_593 : BitVec 32 := 16#32
  let v819 : BitVec 32 := Scalar.muli v2 c16_i32_593
  let v820 : BitVec 32 := Scalar.addi c0_i32_594 v819
  let c4_i32_595 : BitVec 32 := 4#32
  let v821 : BitVec 32 := Scalar.muli v10 c4_i32_595
  let v822 : BitVec 32 := Scalar.addi v820 v821
  let c1_i32_596 : BitVec 32 := 1#32
  let v823 : BitVec 32 := Scalar.muli v11 c1_i32_596
  let v824 : BitVec 32 := Scalar.addi v822 v823
  v824.toNat
def k0_dev18 (d0 : Dev nD) (v12 : BitVec 32) (v13 : BitVec 32) : Nat :=
  let c0_i32_622 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_621 : BitVec 32 := 16#32
  let v857 : BitVec 32 := Scalar.muli v2 c16_i32_621
  let v858 : BitVec 32 := Scalar.addi c0_i32_622 v857
  let c4_i32_623 : BitVec 32 := 4#32
  let v859 : BitVec 32 := Scalar.muli v12 c4_i32_623
  let v860 : BitVec 32 := Scalar.addi v858 v859
  let c1_i32_624 : BitVec 32 := 1#32
  let v861 : BitVec 32 := Scalar.muli v13 c1_i32_624
  let v862 : BitVec 32 := Scalar.addi v860 v861
  v862.toNat
def k0_dev19 (d0 : Dev nD) (v10 : BitVec 32) (v11 : BitVec 32) : Nat :=
  let c0_i32_692 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_691 : BitVec 32 := 16#32
  let v954 : BitVec 32 := Scalar.muli v2 c16_i32_691
  let v955 : BitVec 32 := Scalar.addi c0_i32_692 v954
  let c4_i32_693 : BitVec 32 := 4#32
  let v956 : BitVec 32 := Scalar.muli v10 c4_i32_693
  let v957 : BitVec 32 := Scalar.addi v955 v956
  let c1_i32_694 : BitVec 32 := 1#32
  let v958 : BitVec 32 := Scalar.muli v11 c1_i32_694
  let v959 : BitVec 32 := Scalar.addi v957 v958
  v959.toNat
def k0_dev20 (d0 : Dev nD) : Nat :=
  let c0_i32_904_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_2 v2
  let c16_i32_903_r0 : BitVec 32 := 16#32
  let v1193_r0 : BitVec 32 := Scalar.muli v14 c16_i32_903_r0
  let v1194_r0 : BitVec 32 := Scalar.addi c0_i32_904_r0 v1193_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_905_r0 : BitVec 32 := 4#32
  let v1195_r0 : BitVec 32 := Scalar.muli v5 c4_i32_905_r0
  let v1196_r0 : BitVec 32 := Scalar.addi v1194_r0 v1195_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906_r0 : BitVec 32 := 1#32
  let v1197_r0 : BitVec 32 := Scalar.muli v8 c1_i32_906_r0
  let v1198_r0 : BitVec 32 := Scalar.addi v1196_r0 v1197_r0
  v1198_r0.toNat
def k0_dev21 (d0 : Dev nD) (v10 : BitVec 32) (v11 : BitVec 32) : Nat :=
  let c0_i32_909_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_908_r0 : BitVec 32 := 16#32
  let v1199_r0 : BitVec 32 := Scalar.muli v2 c16_i32_908_r0
  let v1200_r0 : BitVec 32 := Scalar.addi c0_i32_909_r0 v1199_r0
  let c4_i32_910_r0 : BitVec 32 := 4#32
  let v1201_r0 : BitVec 32 := Scalar.muli v10 c4_i32_910_r0
  let v1202_r0 : BitVec 32 := Scalar.addi v1200_r0 v1201_r0
  let c1_i32_911_r0 : BitVec 32 := 1#32
  let v1203_r0 : BitVec 32 := Scalar.muli v11 c1_i32_911_r0
  let v1204_r0 : BitVec 32 := Scalar.addi v1202_r0 v1203_r0
  v1204_r0.toNat

def k0_chk1 (d0 : Dev nD) (v10 : BitVec 32) (v11 : BitVec 32) : Prop :=
  ((k0_dev2 d0 v10 v11) < nD) ∧
  ((k0_dev5 d0 v10 v11) < nD) ∧
  ((k0_dev7 d0 v10 v11) < nD) ∧
  ((k0_dev9 d0 v10 v11) < nD) ∧
  ((k0_dev11 d0 v10 v11) < nD) ∧
  ((k0_dev13 d0 v10 v11) < nD) ∧
  ((k0_dev15 d0 v10 v11) < nD) ∧
  ((k0_dev17 d0 v10 v11) < nD) ∧
  ((k0_dev19 d0 v10 v11) < nD) ∧
  ((k0_dev21 d0 v10 v11) < nD)
theorem k0_dev2_lt : ∀ (d0 : Dev nD) (v10 : BitVec 32) (v11 : BitVec 32) (k0_hw1 : k0_chk1 d0 v10 v11), (k0_dev2 d0 v10 v11) < nD := fun d0 v10 v11 k0_hw1 => k0_hw1.1
theorem k0_dev5_lt : ∀ (d0 : Dev nD) (v10 : BitVec 32) (v11 : BitVec 32) (k0_hw1 : k0_chk1 d0 v10 v11), (k0_dev5 d0 v10 v11) < nD := fun d0 v10 v11 k0_hw1 => k0_hw1.2.1
theorem k0_dev7_lt : ∀ (d0 : Dev nD) (v10 : BitVec 32) (v11 : BitVec 32) (k0_hw1 : k0_chk1 d0 v10 v11), (k0_dev7 d0 v10 v11) < nD := fun d0 v10 v11 k0_hw1 => k0_hw1.2.2.1
theorem k0_dev9_lt : ∀ (d0 : Dev nD) (v10 : BitVec 32) (v11 : BitVec 32) (k0_hw1 : k0_chk1 d0 v10 v11), (k0_dev9 d0 v10 v11) < nD := fun d0 v10 v11 k0_hw1 => k0_hw1.2.2.2.1
theorem k0_dev11_lt : ∀ (d0 : Dev nD) (v10 : BitVec 32) (v11 : BitVec 32) (k0_hw1 : k0_chk1 d0 v10 v11), (k0_dev11 d0 v10 v11) < nD := fun d0 v10 v11 k0_hw1 => k0_hw1.2.2.2.2.1
theorem k0_dev13_lt : ∀ (d0 : Dev nD) (v10 : BitVec 32) (v11 : BitVec 32) (k0_hw1 : k0_chk1 d0 v10 v11), (k0_dev13 d0 v10 v11) < nD := fun d0 v10 v11 k0_hw1 => k0_hw1.2.2.2.2.2.1
theorem k0_dev15_lt : ∀ (d0 : Dev nD) (v10 : BitVec 32) (v11 : BitVec 32) (k0_hw1 : k0_chk1 d0 v10 v11), (k0_dev15 d0 v10 v11) < nD := fun d0 v10 v11 k0_hw1 => k0_hw1.2.2.2.2.2.2.1
theorem k0_dev17_lt : ∀ (d0 : Dev nD) (v10 : BitVec 32) (v11 : BitVec 32) (k0_hw1 : k0_chk1 d0 v10 v11), (k0_dev17 d0 v10 v11) < nD := fun d0 v10 v11 k0_hw1 => k0_hw1.2.2.2.2.2.2.2.1
theorem k0_dev19_lt : ∀ (d0 : Dev nD) (v10 : BitVec 32) (v11 : BitVec 32) (k0_hw1 : k0_chk1 d0 v10 v11), (k0_dev19 d0 v10 v11) < nD := fun d0 v10 v11 k0_hw1 => k0_hw1.2.2.2.2.2.2.2.2.1
theorem k0_dev21_lt : ∀ (d0 : Dev nD) (v10 : BitVec 32) (v11 : BitVec 32) (k0_hw1 : k0_chk1 d0 v10 v11), (k0_dev21 d0 v10 v11) < nD := fun d0 v10 v11 k0_hw1 => k0_hw1.2.2.2.2.2.2.2.2.2

def k0_dev22 (d0 : Dev nD) (v12 : BitVec 32) (v13 : BitVec 32) : Nat :=
  let c0_i32_914_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_913_r0 : BitVec 32 := 16#32
  let v1205_r0 : BitVec 32 := Scalar.muli v2 c16_i32_913_r0
  let v1206_r0 : BitVec 32 := Scalar.addi c0_i32_914_r0 v1205_r0
  let c4_i32_915_r0 : BitVec 32 := 4#32
  let v1207_r0 : BitVec 32 := Scalar.muli v12 c4_i32_915_r0
  let v1208_r0 : BitVec 32 := Scalar.addi v1206_r0 v1207_r0
  let c1_i32_916_r0 : BitVec 32 := 1#32
  let v1209_r0 : BitVec 32 := Scalar.muli v13 c1_i32_916_r0
  let v1210_r0 : BitVec 32 := Scalar.addi v1208_r0 v1209_r0
  v1210_r0.toNat

def k0_chk2 (d0 : Dev nD) (v12 : BitVec 32) (v13 : BitVec 32) : Prop :=
  ((k0_dev3 d0 v12 v13) < nD) ∧
  ((k0_dev6 d0 v12 v13) < nD) ∧
  ((k0_dev8 d0 v12 v13) < nD) ∧
  ((k0_dev10 d0 v12 v13) < nD) ∧
  ((k0_dev12 d0 v12 v13) < nD) ∧
  ((k0_dev14 d0 v12 v13) < nD) ∧
  ((k0_dev16 d0 v12 v13) < nD) ∧
  ((k0_dev18 d0 v12 v13) < nD) ∧
  ((k0_dev22 d0 v12 v13) < nD)
theorem k0_dev3_lt : ∀ (d0 : Dev nD) (v12 : BitVec 32) (v13 : BitVec 32) (k0_hw2 : k0_chk2 d0 v12 v13), (k0_dev3 d0 v12 v13) < nD := fun d0 v12 v13 k0_hw2 => k0_hw2.1
theorem k0_dev6_lt : ∀ (d0 : Dev nD) (v12 : BitVec 32) (v13 : BitVec 32) (k0_hw2 : k0_chk2 d0 v12 v13), (k0_dev6 d0 v12 v13) < nD := fun d0 v12 v13 k0_hw2 => k0_hw2.2.1
theorem k0_dev8_lt : ∀ (d0 : Dev nD) (v12 : BitVec 32) (v13 : BitVec 32) (k0_hw2 : k0_chk2 d0 v12 v13), (k0_dev8 d0 v12 v13) < nD := fun d0 v12 v13 k0_hw2 => k0_hw2.2.2.1
theorem k0_dev10_lt : ∀ (d0 : Dev nD) (v12 : BitVec 32) (v13 : BitVec 32) (k0_hw2 : k0_chk2 d0 v12 v13), (k0_dev10 d0 v12 v13) < nD := fun d0 v12 v13 k0_hw2 => k0_hw2.2.2.2.1
theorem k0_dev12_lt : ∀ (d0 : Dev nD) (v12 : BitVec 32) (v13 : BitVec 32) (k0_hw2 : k0_chk2 d0 v12 v13), (k0_dev12 d0 v12 v13) < nD := fun d0 v12 v13 k0_hw2 => k0_hw2.2.2.2.2.1
theorem k0_dev14_lt : ∀ (d0 : Dev nD) (v12 : BitVec 32) (v13 : BitVec 32) (k0_hw2 : k0_chk2 d0 v12 v13), (k0_dev14 d0 v12 v13) < nD := fun d0 v12 v13 k0_hw2 => k0_hw2.2.2.2.2.2.1
theorem k0_dev16_lt : ∀ (d0 : Dev nD) (v12 : BitVec 32) (v13 : BitVec 32) (k0_hw2 : k0_chk2 d0 v12 v13), (k0_dev16 d0 v12 v13) < nD := fun d0 v12 v13 k0_hw2 => k0_hw2.2.2.2.2.2.2.1
theorem k0_dev18_lt : ∀ (d0 : Dev nD) (v12 : BitVec 32) (v13 : BitVec 32) (k0_hw2 : k0_chk2 d0 v12 v13), (k0_dev18 d0 v12 v13) < nD := fun d0 v12 v13 k0_hw2 => k0_hw2.2.2.2.2.2.2.2.1
theorem k0_dev22_lt : ∀ (d0 : Dev nD) (v12 : BitVec 32) (v13 : BitVec 32) (k0_hw2 : k0_chk2 d0 v12 v13), (k0_dev22 d0 v12 v13) < nD := fun d0 v12 v13 k0_hw2 => k0_hw2.2.2.2.2.2.2.2.2

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Table.lean ====
/- What the host's lookups leave in the table the kernel reads: each device's position on the ring and its two ring
   neighbours, in closed form. -/
module

public import proofs.«01_k».proof.Proof.Gen.KernelIdeal.Regions
public import Idealize.ShloMosaic.Lib.StableHlo.RunRead

@[expose] public section
noncomputable section
namespace Cert.KernelIdeal.Ring

open Idealize.ShloMosaic Idealize.ShloMosaic.TcCoe
open Idealize.SL Idealize.SL.Sem
open Cert.KernelIdeal.Facts₀ Cert.KernelIdeal.Facts

variable {F : FTy → Type} [FloatOps F]

/-- A position counted from the end where it is negative. -/
def wrap (w : IVec S_ 32) : IVec S_ 32 := select (cmpi .slt w (constantI S_ 32 0#32)) (addi w (constantI S_ 32 16#32)) w
/-- The word of a table of sixteen at a position. -/
def look (t : Fin 16 → BitVec 32) (w : IVec S_ 32) : IVec S_ 32 :=
  shapeCast S_ (Host.dynamicSlice S1 (fun i => t (S16.rowMajor i)) (fun _ : Fin 1 => (wrap w (Shape.Idx.first h_S_)).toInt) sliceFits_S16_S1) shapeCasts_S1_S_
/-- The device's position on the ring, as the host looks it up. -/
def here (c : Dev nD) : IVec S_ 32 :=
  look lit0 (addi (muli (Host.remui (Host.divui (constantI S_ 32 (Dev.word c)) (constantI S_ 32 4#32)) (constantI S_ 32 4#32)) (constantI S_ 32 4#32))
   (Host.remui (Host.divui (constantI S_ 32 (Dev.word c)) (constantI S_ 32 1#32)) (constantI S_ 32 4#32)))

/-- The five words, as the host lays them out. -/
def tab (c : Dev nD) : IVec S5 32 :=
  concatenate S5 0 [⟨S1, broadcastInDim S1 ![] bcast_S_S1 (here c)⟩, ⟨S1, broadcastInDim S1 ![] bcast_S_S1 (look lit1 (here c))⟩,
    ⟨S1, broadcastInDim S1 ![] bcast_S_S1 (look lit2 (here c))⟩, ⟨S1, broadcastInDim S1 ![] bcast_S_S1 (look lit3 (here c))⟩,
    ⟨S1, broadcastInDim S1 ![] bcast_S_S1 (look lit4 (here c))⟩] concatenates_S1_S1_S1_S1_S1_S5_d0

/-- Five words laid side by side agree where each does. -/
theorem cat_congr {h : Shape.Concatenates [S1, S1, S1, S1, S1] S5 0} {a0 a1 a2 a3 a4 b0 b1 b2 b3 b4 : IVec S1 32} (h0 : a0 = b0)
    (h1 : a1 = b1) (h2 : a2 = b2) (h3 : a3 = b3) (h4 : a4 = b4) :
    concatenate S5 0 [⟨S1, a0⟩, ⟨S1, a1⟩, ⟨S1, a2⟩, ⟨S1, a3⟩, ⟨S1, a4⟩] h
      = concatenate S5 0 [⟨S1, b0⟩, ⟨S1, b1⟩, ⟨S1, b2⟩, ⟨S1, b3⟩, ⟨S1, b4⟩] h := by
  subst h0 h1 h2 h3 h4; rfl

/-- A read of a table of sixteen words at one position, before it is spread. -/
theorem look_at (t : Fin 16 → BitVec 32) (x : IVec S16 32) (f : Fin 1 → ℤ) (w : IVec S_ 32) (hx : x = fun i => t (S16.rowMajor i))
    (hf : f 0 = (wrap w (Shape.Idx.first h_S_)).toInt) :
    (fun i => shapeCast S_ (Host.dynamicSlice S1 x f sliceFits_S16_S1) shapeCasts_S1_S_ i) = look t w := by
  have e : f = fun _ => (wrap w (Shape.Idx.first h_S_)).toInt := by
    funext k; obtain rfl := Subsingleton.elim k 0; exact hf
  subst hx e; rfl

/-- A read of a table of sixteen words at one position, as `look` writes it. -/
theorem look_of (t : Fin 16 → BitVec 32) (x : IVec S16 32) (f : Fin 1 → ℤ) (w : IVec S_ 32) (hx : x = fun i => t (S16.rowMajor i))
    (hf : f 0 = (wrap w (Shape.Idx.first h_S_)).toInt) :
    (broadcastInDim S1 ![] bcast_S_S1 fun i => shapeCast S_ (Host.dynamicSlice S1 x f sliceFits_S16_S1) shapeCasts_S1_S_ i)
      = broadcastInDim S1 ![] bcast_S_S1 (look t w) := by
  have e : f = fun _ => (wrap w (Shape.Idx.first h_S_)).toInt := by
    funext k; obtain rfl := Subsingleton.elim k 0; exact hf
  subst hx e; rfl

/-- The first lines leave the device's position. -/
theorem first_part (m : (ℓ : Loc nD τ sig) → Buf (Elt F) ℓ) (c : Dev nD) :
    StableHlo.after ((Gen.hostOps0 c).take 27) (Gen.V0 m c) (Proc.devRef .tc main_v15) = here c := by
  after_reads_simp
  refine look_at lit0 _ _ _ rfl ?_
  show BitVec.toInt (StableHlo.upto ((Gen.hostOps0 c).take 27) (Gen.V0 m c) 25 (Proc.devRef .tc main_v13) (Shape.Idx.first h_S_)) = _
  after_reads_simp
  simp only [id]
  rfl

/-- The other lines look up the neighbours at that position and lay the five words out. -/
theorem second_part (W : Valuation τ sig (Elt F)) (c : Dev nD) (p : IVec S_ 32)
    (hp : W (Proc.devRef .tc main_v15) = p)
    (h1 : W (Proc.devRef .tc main_c_0) = fun i => lit1 (S16.rowMajor i)) (h2 : W (Proc.devRef .tc main_c_1) = fun i => lit2 (S16.rowMajor i))
    (h3 : W (Proc.devRef .tc main_c_2) = fun i => lit3 (S16.rowMajor i)) (h4 : W (Proc.devRef .tc main_c_3) = fun i => lit4 (S16.rowMajor i)) :
    StableHlo.after ((Gen.hostOps0 c).drop 27) W (Proc.devRef .tc main_v41) =
     concatenate S5 0 [⟨S1, broadcastInDim S1 ![] bcast_S_S1 p⟩, ⟨S1, broadcastInDim S1 ![] bcast_S_S1 (look lit1 p)⟩,
    ⟨S1, broadcastInDim S1 ![] bcast_S_S1 (look lit2 p)⟩, ⟨S1, broadcastInDim S1 ![] bcast_S_S1 (look lit3 p)⟩,
    ⟨S1, broadcastInDim S1 ![] bcast_S_S1 (look lit4 p)⟩] concatenates_S1_S1_S1_S1_S1_S5_d0 := by
  after_reads_simp
  refine cat_congr ?_ ?_ ?_ ?_ ?_
  · show StableHlo.upto ((Gen.hostOps0 c).drop 27) W 33 (Proc.devRef .tc main_v36) = _
    after_reads_simp
    rw [hp]
  · show StableHlo.upto ((Gen.hostOps0 c).drop 27) W 33 (Proc.devRef .tc main_v37) = _
    after_reads_simp
    refine look_of lit1 _ _ _ h1 ?_
    show BitVec.toInt (StableHlo.upto ((Gen.hostOps0 c).drop 27) W 5 (Proc.devRef .tc main_v18) (Shape.Idx.first h_S_)) = _
    after_reads_simp
    rw [hp]
    rfl
  · show StableHlo.upto ((Gen.hostOps0 c).drop 27) W 33 (Proc.devRef .tc main_v38) = _
    after_reads_simp
    refine look_of lit2 _ _ _ h2 ?_
    show BitVec.toInt (StableHlo.upto ((Gen.hostOps0 c).drop 27) W 12 (Proc.devRef .tc main_v23) (Shape.Idx.first h_S_)) = _
    after_reads_simp
    rw [hp]
    rfl
  · show StableHlo.upto ((Gen.hostOps0 c).drop 27) W 33 (Proc.devRef .tc main_v39) = _
    after_reads_simp
    refine look_of lit3 _ _ _ h3 ?_
    show BitVec.toInt (StableHlo.upto ((Gen.hostOps0 c).drop 27) W 19 (Proc.devRef .tc main_v28) (Shape.Idx.first h_S_)) = _
    after_reads_simp
    rw [hp]
    rfl
  · show StableHlo.upto ((Gen.hostOps0 c).drop 27) W 33 (Proc.devRef .tc main_v40) = _
    after_reads_simp
    refine look_of lit4 _ _ _ h4 ?_
    show BitVec.toInt (StableHlo.upto ((Gen.hostOps0 c).drop 27) W 26 (Proc.devRef .tc main_v33) (Shape.Idx.first h_S_)) = _
    after_reads_simp
    rw [hp]
    rfl

/-- The table, when the kernel starts, holds the five words. -/
theorem table_eq (m : (ℓ : Loc nD τ sig) → Buf (Elt F) ℓ) (c : Dev nD) : Gen.V1 m c main_v41 = tab c := by
  show StableHlo.after ((Gen.hostOps0 c).drop 27) (StableHlo.after ((Gen.hostOps0 c).take 27) (Gen.V0 m c)) (Proc.devRef .tc main_v41) = _
  refine second_part _ c (here c) (first_part m c) ?_ ?_ ?_ ?_ <;> (after_reads_simp; rfl)

end Cert.KernelIdeal.Ring

end
-- ==== Proof.Prog.lean ====
/- The kernel's body as steps: one definition per kind of step (a send round the ring, an arrival awaited, a chunk
   added), a plan that says between which devices and at which places the steps act, and the theorem that the printed
   body is those steps on the plan its table gives. -/
module

public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.KernelIdeal.Ring

open Idealize.ShloMosaic Idealize.ShloMosaic.TcCoe
open Idealize.SL Idealize.SL.Sem
open Cert.KernelIdeal.Facts₀ Cert.KernelIdeal.Facts

variable {F : FTy → Type} [FloatOps F]

/-- Offsets at which a block of 1024 × 1024 fits in the argument's one plane. -/
abbrev InX (o : Fin 3 → ℕ) : Prop := ∀ a, o a + S1x1024x1024.size a ≤ S1x16384x2048.size a
/-- Offsets at which a block of 1024 × 1024 fits in the received half and in the result. -/
abbrev InR (o : Fin 2 → ℕ) : Prop := ∀ a, o a + S1024x1024.size a ≤ S16384x1024.size a

/-- The block of the argument at `o`. -/
abbrev xC (o : Fin 3 → ℕ) (h : InX o) : Memref sig .tc .hbm S1024x1024 .f32 :=
  ((Memref.whole main_arg0).slice (Rect.unit (s := S1x16384x2048) o S1x1024x1024.size h) (fun _ => rfl)).squeeze S1024x1024
    squeezes_S1x1024x1024_S1024x1024
/-- The block of the received half at `o`. -/
abbrev rC (o : Fin 2 → ℕ) (h : InR o) : Memref sig .tc .hbm S1024x1024 .f32 :=
  (Memref.whole main_v42_1).slice (Rect.unit (s := S16384x1024) o S1024x1024.size h) (fun _ => rfl)
/-- The block of the result at `o`. -/
abbrev yC (o : Fin 2 → ℕ) (h : InR o) : Memref sig .tc .hbm S1024x1024 .f32 :=
  (Memref.whole main_v42_0).slice (Rect.unit (s := S16384x1024) o S1024x1024.size h) (fun _ => rfl)
/-- The scratch block for the device's own half. -/
abbrev aM : Memref sig .tc .vmem S1024x1024 .f32 := Memref.whole cc0_scratch0
/-- The scratch block for the received half. -/
abbrev bM : Memref sig .tc .vmem S1024x1024 .f32 := Memref.whole cc0_scratch1
/-- The scratch block for the sum. -/
abbrev sM : Memref sig .tc .vmem S1024x1024 .f32 := Memref.whole cc0_scratch2
/-- The whole of a scratch block, as the vector accesses name it. -/
abbrev full : Rect S1024x1024 := Rect.unit (s := S1024x1024) ![0, 0] S1024x1024.size inb_S1024x1024_S1024x1024_0_0

/-- The barrier between the devices. -/
abbrev bar : Sem sig := (SemArray.scalar (sig.barrier 0 rfl) : Sems sig S_).sem
/-- The semaphore on which the devices leave together. -/
abbrev fin : Sem sig := cc0_scoped0.sem

/-- The first exchange: the partner's half of chunk `o₃` goes into its received half at `o`. -/
def swapP (t : Dev nD) (o₃ : Fin 3 → ℕ) (h₃ : InX o₃) (o : Fin 2 → ℕ) (h : InR o) (s s' : DmaSem sig) :
    Prog (TpuEff nD τ sig (Elt F) Λ₀ .tc) PUnit :=
  Prog.lift (.enqueueDma (xC o₃ h₃) (.remote (Dev.tc t) (rC o h) (.dma s)) (.dma s') ((View.wordExact_bits rfl).reshape _ _)
    (View.wordExact_bits rfl) ⟨⟨rfl, Or.inl rfl⟩, trivial⟩)

/-- A received chunk is passed on to the same place on device `t`. -/
def sendP (t : Dev nD) (o : Fin 2 → ℕ) (h : InR o) (s s' : DmaSem sig) : Prog (TpuEff nD τ sig (Elt F) Λ₀ .tc) PUnit :=
  Prog.lift (.enqueueDma (rC o h) (.remote (Dev.tc t) (rC o h) (.dma s)) (.dma s') (View.wordExact_bits rfl)
    (View.wordExact_bits rfl) ⟨⟨rfl, Or.inl rfl⟩, trivial⟩)

/-- The end of a transfer of a received chunk, or of its arrival, is awaited. -/
def waitP (o : Fin 2 → ℕ) (h : InR o) (s : DmaSem sig) : Prog (TpuEff nD τ sig (Elt F) Λ₀ .tc) PUnit :=
  Prog.lift (.waitDma2 s (rC o h) (rC o h) (View.wordExact_bits rfl) (View.wordExact_bits rfl))

/-- The end of the first exchange is awaited, the departure. -/
def swapOutP (o₃ : Fin 3 → ℕ) (h₃ : InX o₃) (o : Fin 2 → ℕ) (h : InR o) (s : DmaSem sig) :
    Prog (TpuEff nD τ sig (Elt F) Λ₀ .tc) PUnit :=
  Prog.lift (.waitDma2 s (rC o h) (xC o₃ h₃) (View.wordExact_bits rfl) ((View.wordExact_bits rfl).reshape _ _))

/-- The end of the first exchange is awaited, the arrival. -/
def swapInP (o₃ : Fin 3 → ℕ) (h₃ : InX o₃) (o : Fin 2 → ℕ) (h : InR o) (s : DmaSem sig) :
    Prog (TpuEff nD τ sig (Elt F) Λ₀ .tc) PUnit :=
  Prog.lift (.waitDma2 s (xC o₃ h₃) (rC o h) ((View.wordExact_bits rfl).reshape _ _) (View.wordExact_bits rfl))

/-- The semaphores of the local copies. -/
abbrev cpSem0 : DmaSem sig := ((cc0_scratch3.slice (Rect.unit (s := S3) ![0] S1.size inb_S3_S1_0)).squeeze S_ squeezes_S1_S_).sem
abbrev cpSem1 : DmaSem sig := ((cc0_scratch3.slice (Rect.unit (s := S3) ![1] S1.size inb_S3_S1_1)).squeeze S_ squeezes_S1_S_).sem
abbrev cpSem2 : DmaSem sig := ((cc0_scratch3.slice (Rect.unit (s := S3) ![2] S1.size inb_S3_S1_2)).squeeze S_ squeezes_S1_S_).sem

/-- One chunk is added: the device's own half at `o₃` and the received half at `o` are copied in, summed, and the sum copied
    out to the result at `o`. -/
def addP (o₃ : Fin 3 → ℕ) (h₃ : InX o₃) (o : Fin 2 → ℕ) (h : InR o) : Prog (TpuEff nD τ sig (Elt F) Λ₀ .tc) PUnit := do
  Prog.lift (.enqueueDma (xC o₃ h₃) (.here aM) (.dma cpSem0) ((View.wordExact_bits rfl).reshape _ _)
    (Memref.isWhole_whole _).wordExact ⟨Or.inl rfl, trivial⟩)
  Prog.lift (.enqueueDma (rC o h) (.here bM) (.dma cpSem1) (View.wordExact_bits rfl) (Memref.isWhole_whole _).wordExact
    ⟨Or.inl rfl, trivial⟩)
  Prog.lift (.waitDma2 cpSem0 (xC o₃ h₃) aM ((View.wordExact_bits rfl).reshape _ _) (Memref.isWhole_whole _).wordExact)
  Prog.lift (.waitDma2 cpSem1 (rC o h) bM (View.wordExact_bits rfl) (Memref.isWhole_whole _).wordExact)
  let va : Vec F S1024x1024 .f32 ← Prog.lift (.load aM full.toLoadRect (View.loadsAt_vmem h_S1024x1024))
  let vb : Vec F S1024x1024 .f32 ← Prog.lift (.load bM full.toLoadRect (View.loadsAt_vmem h_S1024x1024))
  let _ ← Prog.lift (.load sM full.toLoadRect (View.loadsAt_vmem h_S1024x1024))
  Prog.lift (.store sM full (Gen.k0_pay1 va vb) Finset.univ (View.stores_vmem_bits_univ h_S1024x1024 rfl) (.inl rfl))
  Prog.lift (.enqueueDma sM (.here (yC o h)) (.dma cpSem2) (Memref.isWhole_whole _).wordExact (View.wordExact_bits rfl)
    ⟨Or.inl rfl, trivial⟩)
  Prog.lift (.waitDma2 cpSem2 sM (yC o h) (Memref.isWhole_whole _).wordExact (View.wordExact_bits rfl))

/-- The semaphore of send `r` at its sender: 0 the first exchange, odd the sends forward, even the sends backward. -/
def sndS : Fin 16 → DmaSem sig := ![4, 6, 22, 7, 23, 8, 24, 9, 25, 10, 26, 11, 27, 12, 28, 13]
/-- The semaphore of send `r` at its receiver. -/
def rcvS : Fin 16 → DmaSem sig := ![5, 14, 29, 15, 30, 16, 31, 17, 32, 18, 33, 19, 34, 20, 35, 21]

/-- Between which devices and at which places one device's steps act. -/
@[ext] structure Plan where
  /-- whom the device tells that it has come in -/
  bD : Fin 3 → Dev nD
  /-- to whom send `r` goes -/
  D : Fin 16 → Dev nD
  /-- whom the device tells that it is done -/
  eD : Fin 3 → Dev nD
  /-- where the first exchange reads the argument -/
  oS : Fin 3 → ℕ
  hS : InX oS
  /-- where the `r`-th sum reads the argument -/
  oX : Fin 16 → Fin 3 → ℕ
  hX : ∀ r, InX (oX r)
  /-- where arrival `r` lies, and the `r`-th sum -/
  oR : Fin 16 → Fin 2 → ℕ
  hR : ∀ r, InR (oR r)

/-- The arrival that send `r` passes on. -/
def pre (r : Fin 16) : Fin 16 := ⟨r.val - 2, by omega⟩

/-- Send `r`, round the ring. -/
def sendAt (P : Plan) (r : Fin 16) : Prog (TpuEff nD τ sig (Elt F) Λ₀ .tc) PUnit :=
  sendP (P.D r) (P.oR (pre r)) (P.hR _) (sndS r) (rcvS r)
/-- Arrival `r`. -/
def recvAt (P : Plan) (r : Fin 16) : Prog (TpuEff nD τ sig (Elt F) Λ₀ .tc) PUnit := waitP (P.oR r) (P.hR r) (rcvS r)
/-- The `r`-th sum. -/
def addAt (P : Plan) (r : Fin 16) : Prog (TpuEff nD τ sig (Elt F) Λ₀ .tc) PUnit := addP (P.oX r) (P.hX r) (P.oR r) (P.hR r)
/-- The end of send `r`. -/
def goneAt (P : Plan) (r : Fin 16) : Prog (TpuEff nD τ sig (Elt F) Λ₀ .tc) PUnit := waitP (P.oR 0) (P.hR 0) (sndS r)

/-- The odd and the even arrival of phase `s`. -/
def odd (s : Fin 8) : Fin 16 := ⟨1 + 2 * s.val, by omega⟩
def even (s : Fin 7) : Fin 16 := ⟨2 + 2 * s.val, by omega⟩

/-- Phase `s`: each of the two arrivals is passed on, then both are added. -/
def phaseAt (P : Plan) (s : Fin 6) : Prog (TpuEff nD τ sig (Elt F) Λ₀ .tc) PUnit := do
  recvAt P (odd ⟨s.val, by omega⟩)
  sendAt P (odd ⟨s.val + 1, by omega⟩)
  recvAt P (even ⟨s.val, by omega⟩)
  sendAt P (even ⟨s.val + 1, by omega⟩)
  addAt P (odd ⟨s.val, by omega⟩)
  addAt P (even ⟨s.val, by omega⟩)

/-- The ends of the sends in a list, awaited in its order. -/
def goneAll (P : Plan) : List (Fin 16) → Prog (TpuEff nD τ sig (Elt F) Λ₀ .tc) PUnit
  | [] => pure ⟨⟩
  | r :: rs => do goneAt P r; goneAll P rs

/-- The devices come in: each tells the three it will write to, and waits to be told by them. -/
def meetAt (P : Plan) : Prog (TpuEff nD τ sig (Elt F) Λ₀ .tc) PUnit := do
  semSignalWord (P.bD 0) bar 1#32
  semSignalWord (P.bD 1) bar 1#32
  semSignalWord (P.bD 2) bar 1#32
  semWaitWord bar 3#32

/-- The devices leave, in the same way. -/
def partAt (P : Plan) : Prog (TpuEff nD τ sig (Elt F) Λ₀ .tc) PUnit := do
  semSignalWord (P.eD 0) fin 1#32
  semSignalWord (P.eD 1) fin 1#32
  semSignalWord (P.eD 2) fin 1#32
  semWaitWord fin 3#32

/-- The first exchange, and its chunk sent both ways round the ring and added. -/
def openAt (P : Plan) : Prog (TpuEff nD τ sig (Elt F) Λ₀ .tc) PUnit := do
  swapP (P.D 0) P.oS P.hS (P.oR 0) (P.hR 0) (sndS 0) (rcvS 0)
  swapOutP P.oS P.hS (P.oR 0) (P.hR 0) (sndS 0)
  swapInP P.oS P.hS (P.oR 0) (P.hR 0) (rcvS 0)
  sendAt P 1
  sendAt P 2
  addAt P 0

/-- The last two phases: nothing goes backward any more, then nothing forward. -/
def lastAt (P : Plan) : Prog (TpuEff nD τ sig (Elt F) Λ₀ .tc) PUnit := do
  recvAt P 13
  sendAt P 15
  recvAt P 14
  addAt P 13
  addAt P 14
  recvAt P 15
  addAt P 15

/-- The body after the table is read. -/
def talk (P : Plan) : Prog (TpuEff nD τ sig (Elt F) Λ₀ .tc) PUnit := do
  meetAt P
  openAt P
  phaseAt P 0
  phaseAt P 1
  phaseAt P 2
  phaseAt P 3
  phaseAt P 4
  phaseAt P 5
  lastAt P
  goneAll P [1, 3, 5, 7, 9, 11, 13, 15, 2, 4, 6, 8, 10, 12, 14]
  partAt P

/-- Where arrival `r` lies, by the table's first word. -/
def rawR (v9 : BitVec 32) (r : Fin 16) : Fin 2 → ℕ :=
  if r.val = 0 then k0_off1 v9
  else if r.val % 2 = 1 then k0_off4 v9 (BitVec.ofNat 32 (r.val / 2)) else k0_off5 v9 (BitVec.ofNat 32 (r.val / 2 - 1))
/-- Where the `r`-th sum reads the argument, by the table's first word. -/
def rawX (d0 : Dev nD) (v9 : BitVec 32) (r : Fin 16) : Fin 3 → ℕ :=
  if r.val = 0 then k0_off3 d0 v9
  else if r.val % 2 = 1 then k0_off6 d0 v9 (BitVec.ofNat 32 (r.val / 2)) else k0_off7 d0 v9 (BitVec.ofNat 32 (r.val / 2 - 1))

theorem rawR_in (d0 : Dev nD) (v9 : BitVec 32) (w3 : k0_chk3 d0 v9) (r : Fin 16) : InR (rawR v9 r) := by
  unfold rawR
  split_ifs with h0 h1
  · exact k0_off1_inb d0 v9 w3
  · exact k0_off4_inb d0 v9 w3 ⟨r.val / 2, by omega⟩
  · exact k0_off5_inb d0 v9 w3 ⟨r.val / 2 - 1, by omega⟩
theorem rawX_in (d0 : Dev nD) (v9 : BitVec 32) (w3 : k0_chk3 d0 v9) (r : Fin 16) : InX (rawX d0 v9 r) := by
  unfold rawX
  split_ifs with h0 h1
  · exact k0_off3_inb d0 v9 w3
  · exact k0_off6_inb d0 v9 w3 ⟨r.val / 2, by omega⟩
  · exact k0_off7_inb d0 v9 w3 ⟨r.val / 2 - 1, by omega⟩

/-- The plan the table's five words give. -/
def rawPlan (d0 : Dev nD) (v9 : BitVec 32) (w3 : k0_chk3 d0 v9) (v10 v11 : BitVec 32) (w1 : k0_chk1 d0 v10 v11)
    (v12 v13 : BitVec 32) (w2 : k0_chk2 d0 v12 v13) : Plan where
  bD := ![⟨k0_dev1 d0, k0_dev1_lt d0⟩, ⟨k0_dev2 d0 v10 v11, k0_dev2_lt d0 v10 v11 w1⟩, ⟨k0_dev3 d0 v12 v13, k0_dev3_lt d0 v12 v13 w2⟩]
  D := ![⟨k0_dev4 d0, k0_dev4_lt d0⟩,
    ⟨k0_dev5 d0 v10 v11, k0_dev5_lt d0 v10 v11 w1⟩, ⟨k0_dev6 d0 v12 v13, k0_dev6_lt d0 v12 v13 w2⟩,
    ⟨k0_dev7 d0 v10 v11, k0_dev7_lt d0 v10 v11 w1⟩, ⟨k0_dev8 d0 v12 v13, k0_dev8_lt d0 v12 v13 w2⟩,
    ⟨k0_dev9 d0 v10 v11, k0_dev9_lt d0 v10 v11 w1⟩, ⟨k0_dev10 d0 v12 v13, k0_dev10_lt d0 v12 v13 w2⟩,
    ⟨k0_dev11 d0 v10 v11, k0_dev11_lt d0 v10 v11 w1⟩, ⟨k0_dev12 d0 v12 v13, k0_dev12_lt d0 v12 v13 w2⟩,
    ⟨k0_dev13 d0 v10 v11, k0_dev13_lt d0 v10 v11 w1⟩, ⟨k0_dev14 d0 v12 v13, k0_dev14_lt d0 v12 v13 w2⟩,
    ⟨k0_dev15 d0 v10 v11, k0_dev15_lt d0 v10 v11 w1⟩, ⟨k0_dev16 d0 v12 v13, k0_dev16_lt d0 v12 v13 w2⟩,
    ⟨k0_dev17 d0 v10 v11, k0_dev17_lt d0 v10 v11 w1⟩, ⟨k0_dev18 d0 v12 v13, k0_dev18_lt d0 v12 v13 w2⟩,
    ⟨k0_dev19 d0 v10 v11, k0_dev19_lt d0 v10 v11 w1⟩]
  eD := ![⟨k0_dev20 d0, k0_dev20_lt d0⟩, ⟨k0_dev21 d0 v10 v11, k0_dev21_lt d0 v10 v11 w1⟩, ⟨k0_dev22 d0 v12 v13, k0_dev22_lt d0 v12 v13 w2⟩]
  oS := k0_off2 d0 v9
  hS := k0_off2_inb d0 v9 w3
  oX := rawX d0 v9
  hX := rawX_in d0 v9 w3
  oR := rawR v9
  hR := rawR_in d0 v9 w3

/-- The table as the body holds it. -/
abbrev tM : Memref sig .tc .smem S5 .i32 := Memref.whole cc0_stg0_0

/-- The body: the table's five words are read, what they must be is checked, and the exchange follows. -/
def bodyW : Prog (TpuEff nD τ sig (Elt F) Λ₀ .tc) PUnit := do
  let d0 : Dev nD ← Prog.lift .deviceId
  let v9 : Elt F .i32 ← smemLoad tM (Rect.unit (s := S5) ![0] S1.size inb_S5_S1_0) numel1_S1 rfl
  let w3 ← Prog.lift (TpuEff.assume (k0_chk3 d0 v9) (k0_chk3.dec d0 v9))
  let v10 : Elt F .i32 ← smemLoad tM (Rect.unit (s := S5) ![1] S1.size inb_S5_S1_1) numel1_S1 rfl
  let v11 : Elt F .i32 ← smemLoad tM (Rect.unit (s := S5) ![2] S1.size inb_S5_S1_2) numel1_S1 rfl
  let w1 ← Prog.lift (TpuEff.assume (k0_chk1 d0 v10 v11) (k0_chk1.dec d0 v10 v11))
  let v12 : Elt F .i32 ← smemLoad tM (Rect.unit (s := S5) ![3] S1.size inb_S5_S1_3) numel1_S1 rfl
  let v13 : Elt F .i32 ← smemLoad tM (Rect.unit (s := S5) ![4] S1.size inb_S5_S1_4) numel1_S1 rfl
  let w2 ← Prog.lift (TpuEff.assume (k0_chk2 d0 v12 v13) (k0_chk2.dec d0 v12 v13))
  talk (rawPlan d0 v9 w3.down v10 v11 w1.down v12 v13 w2.down)

set_option maxRecDepth 65536 in
set_option maxHeartbeats 4000000 in
/-- The printed body, on the buffers the pipeline calls it with, is those steps. -/
theorem body_eq :
    cc0_body (F := F) tM (hstage0_0 0) (Memref.whole main_arg0) (Memref.isWhole_whole _) (Memref.whole main_v42_0)
      (Memref.isWhole_whole _) (Memref.whole main_v42_1) (Memref.isWhole_whole _) (Memref.whole cc0_scratch0)
      (Memref.isWhole_whole _) (Memref.whole cc0_scratch1) (Memref.isWhole_whole _) (Memref.whole cc0_scratch2)
      (Memref.isWhole_whole _) cc0_scratch3 cc0_scratch4 cc0_scratch5 cc0_scratch6 cc0_scratch7 cc0_scratch8 cc0_scratch9
      cc0_scoped0 = bodyW := by
  rfl

end Cert.KernelIdeal.Ring

end
-- ==== Proof.Mesh.lean ====
/- The ring the kernel runs on: each device's half and position, its three neighbours, the order in which the chunks
   arrive, and the theorem that the table's words give the plan these make. -/
module

public import proofs.«01_k».proof.Proof.Table
public import proofs.«01_k».proof.Proof.Prog

@[expose] public section

noncomputable section

namespace Cert.KernelIdeal.Ring

open Idealize.ShloMosaic Idealize.ShloMosaic.TcCoe
open Idealize.SL Idealize.SL.Sem
open Cert.KernelIdeal.Facts₀ Cert.KernelIdeal.Facts

/-- Which half of the columns the device keeps. -/
def xc (c : Dev nD) : ℕ := c.val / 16
/-- The device's position on the ring of sixteen that share its half. -/
def pos (c : Dev nD) : Fin 16 := (![0, 1, 2, 3, 15, 6, 5, 4, 14, 7, 8, 9, 13, 12, 11, 10] : Fin 16 → Fin 16) ⟨c.val % 16, Nat.mod_lt _ (by decide)⟩
/-- The device of the `x`-th half at a position. -/
def devAt (x : ℕ) (p : Fin 16) : Dev nD :=
  ⟨x % 2 * 16 + ((![0, 1, 2, 3, 7, 6, 5, 9, 10, 11, 15, 14, 13, 12, 8, 4] : Fin 16 → Fin 16) p).val, by
    show _ < 32; omega⟩
/-- The three devices a device writes to: its partner of the other half, the next and the previous on the ring. -/
def nb (c : Dev nD) : Fin 3 → Dev nD := ![devAt (xc c + 1) (pos c), devAt (xc c) (pos c + 1), devAt (xc c) (pos c + 15)]
/-- By which of the three a device sees the one that sees it by `d`. -/
def dual : Fin 3 → Fin 3 := ![0, 2, 1]
/-- To which of the three send `r` goes. -/
def cls (r : Fin 16) : Fin 3 := if r.val = 0 then 0 else if r.val % 2 = 1 then 1 else 2
/-- The device send `r` goes to. -/
def dest (c : Dev nD) (r : Fin 16) : Dev nD := nb c (cls r)
/-- The chunk arrival `r` brings: the device's own first, then backward and forward from it in turn. -/
def kk (c : Dev nD) (r : Fin 16) : Fin 16 :=
  if r.val = 0 then pos c else if r.val % 2 = 1 then pos c - ⟨1 + r.val / 2, by omega⟩ else pos c + ⟨r.val / 2, by omega⟩

/-- Where the received half and the result hold chunk `k`. -/
def roff (k : Fin 16) : Fin 2 → ℕ := ![k.val * 1024, 0]
/-- Where the argument holds half `x` of chunk `k`. -/
def xoff (x : ℕ) (k : Fin 16) : Fin 3 → ℕ := ![0, k.val * 1024, x % 2 * 1024]

theorem roff_in : ∀ k, InR (roff k) := by decide +kernel
theorem xoff_in (x : ℕ) (k : Fin 16) : InX (xoff x k) := by
  have h : ∀ (y : Fin 2) (k : Fin 16), InX (xoff y.val k) := by decide +kernel
  have := h ⟨x % 2, Nat.mod_lt _ (by decide)⟩ k
  simpa only [xoff, Nat.mod_mod] using this

/-- The plan of device `c`. -/
def plan (c : Dev nD) : Plan where
  bD := nb c
  D := dest c
  eD := nb c
  oS := xoff (xc c + 1) (pos c)
  hS := xoff_in _ _
  oX := fun r => xoff (xc c) (kk c r)
  hX := fun _ => xoff_in _ _
  oR := fun r => roff (kk c r)
  hR := fun _ => roff_in _

/-- The table's words: the position, then the two coordinates of the next device and of the previous one. -/
def tw (c : Dev nD) : Fin 5 → BitVec 32 :=
  ![BitVec.ofNat 32 (pos c).val, BitVec.ofNat 32 ((nb c 1).val % 16 / 4), BitVec.ofNat 32 ((nb c 1).val % 4),
    BitVec.ofNat 32 ((nb c 2).val % 16 / 4), BitVec.ofNat 32 ((nb c 2).val % 4)]

/-- The one coordinate of a word of the table. -/
def at5 (i : Fin 5) : S5.Idx := fun a => match a with | ⟨0, _⟩ => i

theorem tab_at : ∀ (c : Dev nD) (i : Fin 5), tab c (at5 i) = tw c i := by decide +kernel

theorem chk3 : ∀ c : Dev nD, k0_chk3 c (tw c 0) := by decide +kernel
theorem chk1 : ∀ c : Dev nD, k0_chk1 c (tw c 1) (tw c 2) := by decide +kernel
theorem chk2 : ∀ c : Dev nD, k0_chk2 c (tw c 3) (tw c 4) := by decide +kernel

theorem raw_bD : ∀ c : Dev nD, (rawPlan c (tw c 0) (chk3 c) (tw c 1) (tw c 2) (chk1 c) (tw c 3) (tw c 4) (chk2 c)).bD = nb c := by decide +kernel
theorem raw_D : ∀ c : Dev nD, (rawPlan c (tw c 0) (chk3 c) (tw c 1) (tw c 2) (chk1 c) (tw c 3) (tw c 4) (chk2 c)).D = dest c := by decide +kernel
theorem raw_eD : ∀ c : Dev nD, (rawPlan c (tw c 0) (chk3 c) (tw c 1) (tw c 2) (chk1 c) (tw c 3) (tw c 4) (chk2 c)).eD = nb c := by decide +kernel
theorem raw_oS : ∀ c : Dev nD, k0_off2 c (tw c 0) = xoff (xc c + 1) (pos c) := by decide +kernel
theorem raw_oX : ∀ c : Dev nD, rawX c (tw c 0) = fun r => xoff (xc c) (kk c r) := by decide +kernel
theorem raw_oR : ∀ c : Dev nD, rawR (tw c 0) = fun r => roff (kk c r) := by decide +kernel

/-- The plan the table's words give is the device's plan. -/
theorem rawPlan_eq (c : Dev nD) :
    rawPlan c (tw c 0) (chk3 c) (tw c 1) (tw c 2) (chk1 c) (tw c 3) (tw c 4) (chk2 c) = plan c :=
  Plan.ext (raw_bD c) (raw_D c) (raw_eD c) (raw_oS c) (raw_oX c) (raw_oR c)

theorem nb_dual : ∀ (c : Dev nD) (d : Fin 3), nb (nb c d) (dual d) = c := by decide +kernel
theorem dual_dual : ∀ d, dual (dual d) = d := by decide
theorem kk_bij : ∀ c : Dev nD, Function.Bijective (kk c) := by
  have h : ∀ c : Dev nD, Function.Injective (kk c) := by decide +kernel
  exact fun c => Finite.injective_iff_bijective.mp (h c)
/-- What send `r` passes on is the chunk the receiver gets. -/
theorem kk_dest : ∀ (c : Dev nD) (r : Fin 16), kk (dest c r) r = kk c (pre r) := by decide +kernel
/-- The next device and the previous one keep the same half; the partner keeps the other, at the same position. -/
theorem xc_nb : ∀ (c : Dev nD), xc (nb c 0) % 2 = (xc c + 1) % 2 ∧ xc (nb c 1) = xc c ∧ xc (nb c 2) = xc c ∧ pos (nb c 0) = pos c := by
  decide +kernel
theorem xc_lt (c : Dev nD) : xc c < 2 := by
  have h : c.val < 32 := c.isLt
  unfold xc; omega

end Cert.KernelIdeal.Ring

end
-- ==== Proof.Chunks.lean ====
/- The chunks of the received half and of the result: their elements, contents put together chunk by chunk, and the
   ownership of a whole buffer dealt into its chunks in the order they arrive. -/
module

public import proofs.«01_k».proof.Proof.Mesh
public import Idealize.ShloMosaic.Rules.PointsTo
public import Idealize.ShloMosaic.Lib.ViewIndex
public import Idealize.ShloMosaic.Lib.VecWindow
public import Idealize.ShloMosaic.Lib.Rounds
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F]

/-- The protocol's algebra: the staging's rounds, and the rounds of the devices' own cells. -/
abbrev UU : Type := Rounds.URounds (GSem nD τ sig) Unit × Rounds.URounds (GSem nD τ sig) (Fin 3)

local notation "𝕄" => MT nD τ sig Unit (Elt F) ℕ UU ℕ

/-- The received half and the result at chunk `k`, as the steps name them; the argument's half `x` of chunk `k`. -/
abbrev rV (k : Fin 16) : Memref sig .tc .hbm S1024x1024 .f32 := rC (roff k) (roff_in k)
abbrev yV (k : Fin 16) : Memref sig .tc .hbm S1024x1024 .f32 := yC (roff k) (roff_in k)
abbrev xV (x : ℕ) (k : Fin 16) : Memref sig .tc .hbm S1024x1024 .f32 := xC (xoff x k) (xoff_in x k)

/-- The contents of a chunk. -/
abbrev Blk (F : FTy → Type) : Type := S1024x1024.Idx → Elt F .f32
/-- The contents of a buffer of sixteen chunks. -/
abbrev Big (F : FTy → Type) : Type := S16384x1024.Idx → Elt F .f32

/-- The chunk an index lies in, and its place there. -/
def chunkOf (i : S16384x1024.Idx) : Fin 16 := ⟨(i 0).val / 1024, by have : (i 0).val < 16384 := (i 0).isLt; omega⟩
def placeOf (i : S16384x1024.Idx) : S1024x1024.Idx := fun a => match a with
  | ⟨0, _⟩ => ⟨(i 0).val % 1024, Nat.mod_lt _ (by decide)⟩
  | ⟨1, _⟩ => ⟨(i 1).val, (i 1).isLt⟩

/-- Sixteen chunks put together. -/
def glue (g : Fin 16 → Blk F) : Big F := fun i => g (chunkOf i) (placeOf i)

theorem emb0 (k : Fin 16) (j : S1024x1024.Idx) : ((rV k).view.emb j 0).val = k.val * 1024 + (j 0).val :=
  ValueKit.view_emb_slice_whole_unit_val main_v42_1 (roff k) S1024x1024.size (roff_in k) j 0
theorem emb1 (k : Fin 16) (j : S1024x1024.Idx) : ((rV k).view.emb j 1).val = (j 1).val :=
  (ValueKit.view_emb_slice_whole_unit_val main_v42_1 (roff k) S1024x1024.size (roff_in k) j 1).trans (Nat.zero_add _)

theorem chunkOf_emb (k : Fin 16) (j : S1024x1024.Idx) : chunkOf ((rV k).view.emb j) = k := by
  have hj : (j 0).val < 1024 := (j 0).isLt
  refine Fin.ext ?_
  show ((rV k).view.emb j 0).val / 1024 = k.val
  rw [emb0]; omega
theorem placeOf_emb (k : Fin 16) (j : S1024x1024.Idx) : placeOf ((rV k).view.emb j) = j := by
  have hj : (j 0).val < 1024 := (j 0).isLt
  funext a
  match a with
  | ⟨0, _⟩ =>
    refine Fin.ext ?_
    show ((rV k).view.emb j 0).val % 1024 = (j 0).val
    rw [emb0]; omega
  | ⟨1, _⟩ => exact Fin.ext (emb1 k j)

/-- Chunk `k` of sixteen put together is the `k`-th: in the received half, -/
theorem read_glue (k : Fin 16) (g : Fin 16 → Blk F) : (rV k).view.read (Elt F) (glue g) = g k := by
  funext j
  show g (chunkOf ((rV k).view.emb j)) (placeOf ((rV k).view.emb j)) = g k j
  rw [chunkOf_emb, placeOf_emb]
/-- and in the result. -/
theorem read_glue_y (k : Fin 16) (g : Fin 16 → Blk F) : (yV k).view.read (Elt F) (glue g) = g k := read_glue k g

/-- Writing the `k`-th chunk leaves there what the sixteen put together hold: in the received half, -/
theorem write_glue (k : Fin 16) (g : Fin 16 → Blk F) (f : (rV k).view.ty.Contents (Elt F)) :
    ∀ i ∈ (rV k).view.set, (rV k).view.write (Elt F) f (g k) Finset.univ i = glue g i := fun i hi => by
  obtain ⟨j, -, rfl⟩ := Finset.mem_map.mp hi
  refine View.eq_of_read_eq (v := (rV k).view) (f := (rV k).view.write (Elt F) f (g k) Finset.univ) (g := glue g) (x := j) ?_
  rw [View.read_write_univ, read_glue]
/-- and in the result. -/
theorem write_glue_y (k : Fin 16) (g : Fin 16 → Blk F) (f : (yV k).view.ty.Contents (Elt F)) :
    ∀ i ∈ (yV k).view.set, (yV k).view.write (Elt F) f (g k) Finset.univ i = glue g i := write_glue k g f

/-- An element lies in the chunk its row says. -/
theorem mem_chunk (k : Fin 16) (i : S16384x1024.Idx) : i ∈ ((rV k).view.set : Finset S16384x1024.Idx) ↔ chunkOf i = k := by
  constructor
  · intro hi
    obtain ⟨j, -, rfl⟩ := Finset.mem_map.mp hi
    exact chunkOf_emb k j
  · rintro rfl
    have e : (rV (chunkOf i)).view.emb (placeOf i) = i := by
      funext a
      match a with
      | ⟨0, _⟩ =>
        refine Fin.ext ((emb0 (chunkOf i) (placeOf i)).trans ?_)
        show (i 0).val / 1024 * 1024 + (i 0).val % 1024 = (i 0).val
        omega
      | ⟨1, _⟩ => exact Fin.ext (emb1 (chunkOf i) (placeOf i))
    have h : (rV (chunkOf i)).view.emb (placeOf i) ∈ (rV (chunkOf i)).view.set := View.emb_mem_set _ _
    rwa [e] at h

/-- The chunks, in the order in which they arrive at `c`, are disjoint and cover the buffer. -/
theorem chunk_disj (c : Dev nD) (r r' : Fin 16) (h : r ≠ r') :
    Disjoint ((rV (kk c r)).view.set : Finset S16384x1024.Idx) (rV (kk c r')).view.set :=
  Finset.disjoint_left.mpr fun i h1 h2 =>
    h ((kk_bij c).1 (((mem_chunk _ i).mp h1).symm.trans ((mem_chunk _ i).mp h2)))
theorem chunk_cover (c : Dev nD) :
    Finset.univ.biUnion (fun r : Fin 16 => (show Finset S16384x1024.Idx from (rV (kk c r)).view.set)) = Finset.univ := by
  ext i
  obtain ⟨r, hr⟩ := (kk_bij c).2 (chunkOf i)
  simp only [Finset.mem_biUnion, Finset.mem_univ, true_and, iff_true]
  exact ⟨r, (mem_chunk _ i).mpr hr.symm⟩

/-- Ownership of a chunk of device `c`'s received half, of its result, and of its whole argument. -/
def rP (c : Dev nD) (k : Fin 16) (q : PosShare TreeShare) (f : Big F) : sProp 𝕄 :=
  (rV k).view.loc (c : Thread nD τ) ↦[(rV k).view.set]{q} f
def yP (c : Dev nD) (k : Fin 16) (f : Big F) : sProp 𝕄 :=
  (yV k).view.loc (c : Thread nD τ) ↦[(yV k).view.set]{fullShare} f

/-- The received half, whole, is its chunks in the order of arrival; -/
theorem recv_chunks (c : Dev nD) (f : Big F) :
    (((c : Thread nD τ).loc main_v42_1 ↦{fullShare} f : sProp 𝕄)) = bigSep Finset.univ fun r : Fin 16 => rP c (kk c r) fullShare f := by
  unfold rP
  rw [← chunk_cover c]
  exact pointsTo_biUnion (ℓ := (c : Thread nD τ).loc main_v42_1) (q := fullShare) (f := f) Finset.univ
    (fun r : Fin 16 => (rV (kk c r)).view.set) fun r _ r' _ h => chunk_disj c r r' h
/-- and so is the result. -/
theorem out_chunks (c : Dev nD) (f : Big F) :
    (((c : Thread nD τ).loc main_v42_0 ↦{fullShare} f : sProp 𝕄)) = bigSep Finset.univ fun r : Fin 16 => yP c (kk c r) f := by
  unfold yP
  rw [← chunk_cover c]
  exact pointsTo_biUnion (ℓ := (c : Thread nD τ).loc main_v42_0) (q := fullShare) (f := f) Finset.univ
    (fun r : Fin 16 => (yV (kk c r)).view.set) fun r _ r' _ h => chunk_disj c r r' h

end Cert.KernelIdeal.Ring

end
-- ==== Proof.Rounds.lean ====
/- The protocol, written down once: which semaphore each transfer and signal counts on, what each count hands over, what
   every device owes at each step, and the order in which the waits may stand. -/
module

public import proofs.«01_k».proof.Proof.Chunks

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ## The cells -/

/-- The semaphores of the three local copies. -/
def cpS : Fin 3 → DmaSem sig := ![1, 2, 3]

abbrev cellB (c : Dev nD) : GSem nD τ sig := ((c : Thread nD τ), .reg bar)
abbrev cellX (c : Dev nD) : GSem nD τ sig := ((c : Thread nD τ), .reg fin)
abbrev cellC (c : Dev nD) (i : Fin 3) : GSem nD τ sig := ((c : Thread nD τ), .dma (cpS i))
abbrev cellS (c : Dev nD) (r : Fin 16) : GSem nD τ sig := ((c : Thread nD τ), .dma (sndS r))
abbrev cellR (c : Dev nD) (r : Fin 16) : GSem nD τ sig := ((c : Thread nD τ), .dma (rcvS r))

/-- What a semaphore is for. -/
inductive Kd
  | bar | fin | cp (i : Fin 3) | snd (r : Fin 16) | rcv (r : Fin 16) | other
  deriving DecidableEq

/-- The DMA semaphores, in their order. -/
def dmaKd : Fin 36 → Kd :=
  ![.other, .cp 0, .cp 1, .cp 2, .snd 0, .rcv 0,
    .snd 1, .snd 3, .snd 5, .snd 7, .snd 9, .snd 11, .snd 13, .snd 15,
    .rcv 1, .rcv 3, .rcv 5, .rcv 7, .rcv 9, .rcv 11, .rcv 13, .rcv 15,
    .snd 2, .snd 4, .snd 6, .snd 8, .snd 10, .snd 12, .snd 14,
    .rcv 2, .rcv 4, .rcv 6, .rcv 8, .rcv 10, .rcv 12, .rcv 14]

def kd : SemLoc sig → Kd
  | .reg s => if s = bar then .bar else .fin
  | .dma s => dmaKd s

theorem kd_bar : kd (.reg bar) = .bar := by decide
theorem kd_fin : kd (.reg fin) = .fin := by decide
theorem kd_cp : ∀ i, kd (.dma (cpS i)) = .cp i := by decide
theorem kd_snd : ∀ r, kd (.dma (sndS r)) = .snd r := by decide
theorem kd_rcv : ∀ r, kd (.dma (rcvS r)) = .rcv r := by decide

/-! ## The contents -/

/-- What device `c`'s argument holds. -/
abbrev argOf (c : Dev nD) : Buf (Elt F) ((c : Thread nD τ).loc main_arg0) := m ((c : Thread nD τ).loc main_arg0)
/-- The half that `c` keeps of its own chunk `k`. -/
def ownB (c : Dev nD) (k : Fin 16) : Blk F := (xV (xc c) k).view.read (Elt F) (argOf m c)
/-- The half of chunk `k` that comes in: it starts from the device of the other half at the chunk's position. -/
def inB (c : Dev nD) (k : Fin 16) : Blk F := (xV (xc c) k).view.read (Elt F) (argOf m (devAt (xc c + 1) k))
/-- What `c`'s received half holds once every chunk has come in. -/
def inA (c : Dev nD) : Big F := glue (inB m c)
/-- The sum of chunk `k`, -/
def sumB (c : Dev nD) (k : Fin 16) : Blk F := Gen.k0_pay1 (F := F) (ownB m c k) (inB m c k)
/-- and what `c`'s result holds in the end. -/
def sumA (c : Dev nD) : Big F := glue (sumB m c)

/-- A transfer's count. -/
abbrev N : ℕ := aM.view.dmaCredit
theorem N_pos : 0 < N := View.dmaCredit_pos _ (by decide)

/-! ## Shares of an arrived chunk -/

/-- What send `r` reads of the chunk it passes on. -/
def sh (r : Fin 16) : PosShare TreeShare := if r.val = 2 then fullShare.right.left else fullShare.left
/-- What stays for the sum of chunk `r`. -/
def kept (r : Fin 16) : PosShare TreeShare := if r.val = 0 then fullShare.right.right else fullShare.right

/-! ## What each count hands over -/

/-- The argument's block that the first exchange reads: the partner's half of the device's own chunk. -/
def giveP (c : Dev nD) : sProp 𝕄 :=
  (xV (xc c + 1) (pos c)).view.loc (c : Thread nD τ) ↦[(xV (xc c + 1) (pos c)).view.set]{fullShare} argOf m c
/-- The argument's block that the `r`-th sum reads. -/
def keepP (c : Dev nD) (r : Fin 16) : sProp 𝕄 :=
  (xV (xc c) (kk c r)).view.loc (c : Thread nD τ) ↦[(xV (xc c) (kk c r)).view.set]{fullShare} argOf m c
/-- The three scratch blocks. -/
def aP (c : Dev nD) (f : Blk F) : sProp 𝕄 := aM.view.loc (c : Thread nD τ) ↦[aM.view.set]{fullShare} f
def bP (c : Dev nD) (f : Blk F) : sProp 𝕄 := bM.view.loc (c : Thread nD τ) ↦[bM.view.set]{fullShare} f
def sP (c : Dev nD) (f : Blk F) : sProp 𝕄 := sM.view.loc (c : Thread nD τ) ↦[sM.view.set]{fullShare} f

/-- Coming in, a device hands the one that will write to it by `d`: the places of those sends, at contents not chosen, and
    that the counters they land on are open. -/
def landP (c : Dev nD) (r : Fin 16) : sProp 𝕄 :=
  iprop((∃ f, rP c (kk c r) fullShare f) ∗ reached ER (cellR c r) 0)
def meetP (c : Dev nD) (d : Fin 3) : sProp 𝕄 :=
  iprop((bigSep (Finset.univ.filter fun r : Fin 16 => cls r = d) fun r => landP (nb c d) r) ∗ reached ER (cellX (nb c d)) 0)
/-- A local copy hands over what it wrote and what it read. -/
def copyP (c : Dev nD) (r : Fin 16) (i : Fin 3) : sProp 𝕄 :=
  if i = 0 then iprop(aP c (ownB m c (kk c r)) ∗ keepP m c r)
  else if i = 1 then iprop(bP c (inB m c (kk c r)) ∗ rP c (kk c r) (kept r) (inA m c))
  else iprop(yP c (kk c r) (sumA m c) ∗ sP c (sumB m c (kk c r)))
/-- A send, at its sender, hands back what it read; -/
def goneP (c : Dev nD) (r : Fin 16) : sProp 𝕄 :=
  if r.val = 0 then giveP m c else rP c (kk c (pre r)) (sh r) (inA m c)
/-- at its receiver, the chunk. -/
def comeP (c : Dev nD) (r : Fin 16) : sProp 𝕄 := rP c (kk c r) fullShare (inA m c)

/-- A number of a round as that of a chunk. -/
def rr (r : ℕ) : Fin 16 := ⟨r % 16, Nat.mod_lt _ (by decide)⟩
theorem rr_val (r : Fin 16) : rr r.val = r := Fin.ext (Nat.mod_eq_of_lt r.isLt)

/-- The schedule. -/
def sched : Schedule (GSem nD τ sig) (Fin 3) 𝕄 where
  duties g r := if g.1.2 = .tc then
    (match kd g.2 with
      | .bar => if r = 0 then Finset.univ else ∅
      | .fin => if r = 0 then Finset.univ else ∅
      | .cp _ => if r < 16 then {0} else ∅
      | .snd _ => if r = 0 then {0} else ∅
      | .rcv _ => if r = 0 then {0} else ∅
      | .other => ∅) else ∅
  unitless _ := False
  amount g _ _ := match kd g.2 with
    | .bar => 1
    | .fin => 1
    | _ => N
  payload g r d := match kd g.2 with
    | .bar => meetP g.1.1 d
    | .cp i => copyP m g.1.1 (rr r) i
    | .snd r' => goneP m g.1.1 r'
    | .rcv r' => comeP m g.1.1 r'
    | _ => iprop(emp)
  amount_pos g _ _ _ := by
    split
    · exact Nat.one_pos
    · exact Nat.one_pos
    · exact N_pos

instance sched_storable (g : GSem nD τ sig) (r : ℕ) (d : Fin 3) :
    BI.Storable (upEmb : UEmb _ 𝕄) ((sched (F := F) m).payload g r d) := by
  show BI.Storable upEmb (match kd g.2 with
    | .bar => meetP g.1.1 d
    | .cp i => copyP m g.1.1 (rr r) i
    | .snd r' => goneP m g.1.1 r'
    | .rcv r' => comeP m g.1.1 r'
    | _ => iprop(emp))
  unfold meetP landP copyP goneP comeP giveP keepP aP bP sP rP yP
  (repeat' split) <;> infer_instance

section Sched

variable (c : Dev nD)

theorem duties_bar : (sched (F := F) m).duties (cellB c) 0 = Finset.univ := by
  dsimp only [sched]; rw [if_pos rfl, kd_bar]; exact if_pos rfl
theorem duties_fin : (sched (F := F) m).duties (cellX c) 0 = Finset.univ := by
  dsimp only [sched]; rw [if_pos rfl, kd_fin]; exact if_pos rfl
theorem duties_cp (i : Fin 3) (r : Fin 16) : (sched (F := F) m).duties (cellC c i) r.val = {0} := by
  dsimp only [sched]; rw [if_pos rfl, kd_cp]; exact if_pos r.isLt
theorem duties_snd (r : Fin 16) : (sched (F := F) m).duties (cellS c r) 0 = {0} := by
  dsimp only [sched]; rw [if_pos rfl, kd_snd]; exact if_pos rfl
theorem duties_rcv (r : Fin 16) : (sched (F := F) m).duties (cellR c r) 0 = {0} := by
  dsimp only [sched]; rw [if_pos rfl, kd_rcv]; exact if_pos rfl

theorem amount_bar (r : ℕ) (d : Fin 3) : (sched (F := F) m).amount (cellB c) r d = 1 := by dsimp only [sched]; rw [kd_bar]
theorem amount_fin (r : ℕ) (d : Fin 3) : (sched (F := F) m).amount (cellX c) r d = 1 := by dsimp only [sched]; rw [kd_fin]
theorem amount_cp (i : Fin 3) (r : ℕ) (d : Fin 3) : (sched (F := F) m).amount (cellC c i) r d = N := by dsimp only [sched]; rw [kd_cp]
theorem amount_snd (r' : Fin 16) (r : ℕ) (d : Fin 3) : (sched (F := F) m).amount (cellS c r') r d = N := by dsimp only [sched]; rw [kd_snd]
theorem amount_rcv (r' : Fin 16) (r : ℕ) (d : Fin 3) : (sched (F := F) m).amount (cellR c r') r d = N := by dsimp only [sched]; rw [kd_rcv]

theorem expect_bar : (sched (F := F) m).expect (cellB c) 0 = 3 := by
  unfold Schedule.expect Schedule.amountOf; rw [duties_bar, Finset.sum_congr rfl fun d _ => amount_bar m c 0 d]; rfl
theorem expect_fin : (sched (F := F) m).expect (cellX c) 0 = 3 := by
  unfold Schedule.expect Schedule.amountOf; rw [duties_fin, Finset.sum_congr rfl fun d _ => amount_fin m c 0 d]; rfl
theorem expect_cp (i : Fin 3) (r : Fin 16) : (sched (F := F) m).expect (cellC c i) r.val = N := by
  unfold Schedule.expect Schedule.amountOf; rw [duties_cp, Finset.sum_singleton, amount_cp]
theorem expect_snd (r : Fin 16) : (sched (F := F) m).expect (cellS c r) 0 = N := by
  unfold Schedule.expect Schedule.amountOf; rw [duties_snd, Finset.sum_singleton, amount_snd]
theorem expect_rcv (r : Fin 16) : (sched (F := F) m).expect (cellR c r) 0 = N := by
  unfold Schedule.expect Schedule.amountOf; rw [duties_rcv, Finset.sum_singleton, amount_rcv]

theorem payload_bar (r : ℕ) (d : Fin 3) : (sched (F := F) m).payload (cellB c) r d = meetP c d := by dsimp only [sched]; rw [kd_bar]
theorem payload_fin (r : ℕ) (d : Fin 3) : (sched (F := F) m).payload (cellX c) r d = iprop(emp) := by dsimp only [sched]; rw [kd_fin]
theorem payload_cp (i : Fin 3) (r : Fin 16) (d : Fin 3) : (sched (F := F) m).payload (cellC c i) r.val d = copyP m c r i := by
  dsimp only [sched]; rw [kd_cp, rr_val]
theorem payload_snd (r' : Fin 16) (r : ℕ) (d : Fin 3) : (sched (F := F) m).payload (cellS c r') r d = goneP m c r' := by
  dsimp only [sched]; rw [kd_snd]
theorem payload_rcv (r' : Fin 16) (r : ℕ) (d : Fin 3) : (sched (F := F) m).payload (cellR c r') r d = comeP m c r' := by
  dsimp only [sched]; rw [kd_rcv]

theorem rest_bar : bigSep ((sched (F := F) m).duties (cellB c) 0 \ ∅) (fun d => (sched (F := F) m).payload (cellB c) 0 d)
    = bigSep Finset.univ fun d => meetP c d := by
  rw [Finset.sdiff_empty, duties_bar]; exact bigSep_congr fun d _ => payload_bar m c 0 d
theorem rest_cp (i : Fin 3) (r : Fin 16) :
    bigSep ((sched (F := F) m).duties (cellC c i) r.val \ ∅) (fun d => (sched (F := F) m).payload (cellC c i) r.val d) = copyP m c r i := by
  rw [Finset.sdiff_empty, duties_cp, bigSep_singleton, payload_cp]
theorem rest_snd (r : Fin 16) :
    bigSep ((sched (F := F) m).duties (cellS c r) 0 \ ∅) (fun d => (sched (F := F) m).payload (cellS c r) 0 d) = goneP m c r := by
  rw [Finset.sdiff_empty, duties_snd, bigSep_singleton, payload_snd]
theorem rest_rcv (r : Fin 16) :
    bigSep ((sched (F := F) m).duties (cellR c r) 0 \ ∅) (fun d => (sched (F := F) m).payload (cellR c r) 0 d) = comeP m c r := by
  rw [Finset.sdiff_empty, duties_rcv, bigSep_singleton, payload_rcv]

/-- Past its last round a cell has nothing due: sixteen for a local copy's, one for any other. -/
theorem later (g : GSem nD τ sig) (h : ∀ i, kd g.2 ≠ .cp i) : ∀ r, 1 ≤ r → (sched (F := F) m).duties g r = ∅ := fun r hr => by
  have h0 : ¬ r = 0 := by omega
  dsimp only [sched]
  by_cases hc : g.1.2 = .tc
  · rw [if_pos hc]
    split <;> first | exact if_neg h0 | rfl | (rename_i e; exact absurd e (h _))
  · exact if_neg hc
theorem later_cp (i : Fin 3) : ∀ r, 16 ≤ r → (sched (F := F) m).duties (cellC c i) r = ∅ := fun r hr => by
  dsimp only [sched]; rw [if_pos rfl, kd_cp]; exact if_neg (by omega)

end Sched

/-! ## What each device owes -/

/-- The twenty-two payments of a device to others, in the order it makes them: three signals to come in, sixteen sends, three
    signals to leave. To whom, -/
def dDev (c : Dev nD) (i : Fin 22) : Dev nD :=
  if h : i.val < 3 then nb c ⟨i.val, h⟩ else if h' : i.val < 19 then dest c ⟨i.val - 3, by omega⟩ else nb c ⟨i.val - 19, by omega⟩
/-- on which semaphore, -/
def dSem (i : Fin 22) : SemLoc sig :=
  if i.val < 3 then .reg bar else if h' : i.val < 19 then .dma (rcvS ⟨i.val - 3, by omega⟩) else .reg fin
/-- and how much. -/
def dAmt (i : Fin 22) : ℕ := if i.val < 3 then 1 else if i.val < 19 then N else 1

abbrev dCell (c : Dev nD) (i : Fin 22) : GSem nD τ sig := ((dDev c i : Thread nD τ), dSem i)

/-- What is owed once the first `n` payments are made. -/
def Ow (c : Dev nD) (n : ℕ) : CellTallies nD τ sig Unit :=
  ∑ i ∈ Finset.univ.filter (fun i : Fin 22 => n ≤ i.val), tallyAt (dCell c i) () (dAmt i)

theorem Ow_step (c : Dev nD) (i : Fin 22) : Ow c i.val = Ow c (i.val + 1) + tallyAt (dCell c i) () (dAmt i) := by
  unfold Ow
  have e : Finset.univ.filter (fun j : Fin 22 => i.val ≤ j.val) = insert i (Finset.univ.filter fun j : Fin 22 => i.val + 1 ≤ j.val) := by
    ext j
    simp only [Finset.mem_filter, Finset.mem_univ, true_and, Finset.mem_insert, Fin.ext_iff]
    omega
  rw [e, Finset.sum_insert (by simp), add_comm]
theorem Ow_end (c : Dev nD) : Ow c 22 = 0 := by
  unfold Ow
  rw [Finset.filter_false_of_mem fun i _ => by omega, Finset.sum_empty]

theorem Ow_bar (c : Dev nD) (d : Fin 3) : Ow c d.val = Ow c (d.val + 1) + tallyAt (cellB (nb c d)) () 1 := by
  have h := Ow_step c ⟨d.val, by omega⟩
  have e1 : dDev c ⟨d.val, by omega⟩ = nb c d := dif_pos d.isLt
  have e2 : dSem ⟨d.val, by omega⟩ = .reg bar := if_pos d.isLt
  have e3 : dAmt ⟨d.val, by omega⟩ = 1 := if_pos d.isLt
  rwa [dCell, e1, e2, e3] at h
theorem Ow_send (c : Dev nD) (r : Fin 16) : Ow c (r.val + 3) = Ow c (r.val + 4) + tallyAt (cellR (dest c r) r) () N := by
  have h := Ow_step c ⟨r.val + 3, by omega⟩
  have e1 : dDev c ⟨r.val + 3, by omega⟩ = dest c r := by
    unfold dDev; rw [dif_neg (by simp), dif_pos (by simp <;> omega)]; rfl
  have e2 : dSem ⟨r.val + 3, by omega⟩ = .dma (rcvS r) := by
    unfold dSem; rw [if_neg (by simp), dif_pos (by simp <;> omega)]; rfl
  have e3 : dAmt ⟨r.val + 3, by omega⟩ = N := by
    unfold dAmt; rw [if_neg (by simp), if_pos (by simp <;> omega)]
  rwa [dCell, e1, e2, e3] at h
theorem Ow_fin (c : Dev nD) (d : Fin 3) : Ow c (d.val + 19) = Ow c (d.val + 20) + tallyAt (cellX (nb c d)) () 1 := by
  have h := Ow_step c ⟨d.val + 19, by omega⟩
  have e1 : dDev c ⟨d.val + 19, by omega⟩ = nb c d := by
    unfold dDev; rw [dif_neg (by simp <;> omega), dif_neg (by simp)]; rfl
  have e2 : dSem ⟨d.val + 19, by omega⟩ = .reg fin := by
    unfold dSem; rw [if_neg (by simp <;> omega), dif_neg (by simp)]
  have e3 : dAmt ⟨d.val + 19, by omega⟩ = 1 := by
    unfold dAmt; rw [if_neg (by simp <;> omega), if_neg (by simp)]
  rwa [dCell, e1, e2, e3] at h

/-! ## The order of the waits -/

def Lx (g : GSem nD τ sig) : Finset Unit := if g.1.2 = .tc then {()} else ∅
/-- Below everything, what a device settles with itself; then the coming in; the arrivals in their order; the leaving. -/
def lv (g : GSem nD τ sig) (_ : Unit) : ℕ := match kd g.2 with
  | .bar => 1
  | .rcv r => r.val + 4
  | .fin => 20
  | _ => 0

theorem Lx_of_ne (g : GSem nD τ sig) (h : g.1.2 ≠ .tc) : Lx g = ∅ := if_neg h
theorem Lx_tc (c : Dev nD) (sm : SemLoc sig) : Lx ((c : Thread nD τ), sm) = {()} := if_pos rfl

theorem lv_dCell (c : Dev nD) (i : Fin 22) : lv (dCell c i) () = if i.val < 3 then 1 else if i.val < 19 then i.val + 1 else 20 := by
  unfold lv dCell dSem
  dsimp only
  split_ifs with h1 h2
  · rw [kd_bar]
  · rw [kd_rcv]; show i.val - 3 + 4 = i.val + 1; omega
  · rw [kd_fin]

/-- What is owed after `n` payments is owed at a payment from the `n`-th on. -/
theorem Ow_pos {c : Dev nD} {n : ℕ} {g : GSem nD τ sig} {u : Unit} (h : 0 < Ow c n g u) : ∃ i : Fin 22, n ≤ i.val ∧ g = dCell c i := by
  by_contra hn
  push Not at hn
  refine absurd h (Nat.not_lt.mpr (Nat.le_of_eq ?_))
  unfold Ow
  rw [Finset.sum_apply, Finsupp.finset_sum_apply]
  refine Finset.sum_eq_zero fun i hi => ?_
  rw [tallyAt_apply, if_neg fun e => hn i (Finset.mem_filter.mp hi).2 e.1]

/-- A cell below every payment left may be waited on. -/
theorem mayWait (c : Dev nD) (sm : SemLoc sig) (n : ℕ)
    (h : ∀ i : Fin 22, n ≤ i.val → lv ((c : Thread nD τ), sm) () < if i.val < 3 then 1 else if i.val < 19 then i.val + 1 else 20) :
    (levAts Lx lv : sProp 𝕄) ⊢ MayWait (c : Thread nD τ) sm () (Ow c n) :=
  MayOwe.of_cut (L := Lx) (lev := lv) (lv ((c : Thread nD τ), sm) ())
    (fun p hp => by rw [Finset.mem_singleton.mp hp, Lx_tc]; exact Finset.mem_singleton_self _)
    (fun g u hg => by obtain ⟨i, -, rfl⟩ := Ow_pos hg; rw [Lx_tc]; exact Finset.mem_singleton_self _)
    (fun p hp => by rw [Finset.mem_singleton.mp hp])
    (fun g u hg => by
      obtain ⟨i, hi, rfl⟩ := Ow_pos hg
      show _ < lv (dCell c i) ()
      rw [lv_dCell]; exact h i hi)

theorem mayWait_bar (c : Dev nD) : (levAts Lx lv : sProp 𝕄) ⊢ MayWait (c : Thread nD τ) (.reg bar) () (Ow c 3) :=
  mayWait c _ 3 fun i hi => by
    rw [show lv ((c : Thread nD τ), .reg bar) () = 1 from by unfold lv; rw [kd_bar]]
    split_ifs <;> omega
theorem mayWait_rcv (c : Dev nD) (r : Fin 16) (n : ℕ) (hn : r.val + 3 < n) :
    (levAts Lx lv : sProp 𝕄) ⊢ MayWait (c : Thread nD τ) (.dma (rcvS r)) () (Ow c n) :=
  mayWait c _ n fun i hi => by
    rw [show lv ((c : Thread nD τ), .dma (rcvS r)) () = r.val + 4 from by unfold lv; rw [kd_rcv]]
    split_ifs <;> omega
theorem mayWait_snd (c : Dev nD) (r : Fin 16) (n : ℕ) :
    (levAts Lx lv : sProp 𝕄) ⊢ MayWait (c : Thread nD τ) (.dma (sndS r)) () (Ow c n) :=
  mayWait c _ n fun i hi => by
    rw [show lv ((c : Thread nD τ), .dma (sndS r)) () = 0 from by unfold lv; rw [kd_snd]]
    split_ifs <;> omega
theorem mayWait_cp (c : Dev nD) (j : Fin 3) (n : ℕ) :
    (levAts Lx lv : sProp 𝕄) ⊢ MayWait (c : Thread nD τ) (.dma (cpS j)) () (Ow c n) :=
  mayWait c _ n fun i hi => by
    rw [show lv ((c : Thread nD τ), .dma (cpS j)) () = 0 from by unfold lv; rw [kd_cp]]
    split_ifs <;> omega

end Cert.KernelIdeal.Ring

end
-- ==== Proof.Steps.lean ====
/- Each step of the body against the protocol, once, at a symbolic device and a symbolic chunk. -/
module

public import proofs.«01_k».proof.Proof.Rounds

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells of all devices -/

/-- The semaphores a device's body holds for itself: the leaving, the local copies, the sends, the arrivals. -/
abbrev Own : Type := Unit ⊕ (Fin 3 ⊕ (Fin 16 ⊕ Fin 16))
def ownSem : Own → SemLoc sig
  | .inl _ => .reg fin
  | .inr (.inl i) => .dma (cpS i)
  | .inr (.inr (.inl r)) => .dma (sndS r)
  | .inr (.inr (.inr r)) => .dma (rcvS r)

theorem ownSem_inj : Function.Injective ownSem := by decide +kernel
theorem ownSem_ne_bar : ∀ k, ownSem k ≠ .reg bar := by decide +kernel

def barEmb : Dev nD ↪ GSem nD τ sig := ⟨fun c => cellB c, fun _ _ h => congrArg (fun g : GSem nD τ sig => g.1.1) h⟩
def ownEmb : Dev nD × Own ↪ GSem nD τ sig :=
  ⟨fun p => ((p.1 : Thread nD τ), ownSem p.2), fun _ _ h =>
    Prod.ext (congrArg (fun g : GSem nD τ sig => g.1.1) h) (ownSem_inj (congrArg Prod.snd h))⟩
def barCells : Finset (GSem nD τ sig) := Finset.univ.map barEmb
def ownCells : Finset (GSem nD τ sig) := Finset.univ.map ownEmb

/-- Every cell's invariant, under one map of names. -/
def Inv (κ : GSem nD τ sig → ℕ) : sProp 𝕄 := bigSep (barCells ∪ ownCells) fun g => cellInv ER (sched m) (κ g) g
instance Inv_persistent (κ : GSem nD τ sig → ℕ) : BI.Persistent (Inv m κ) := by unfold Inv; infer_instance

variable (κ : GSem nD τ sig → ℕ) (c : Dev nD)

theorem inv_bar : Inv m κ ⊢ cellInv ER (sched m) (κ (cellB c)) (cellB c) :=
  bigSep_elim (Finset.mem_union_left _ (Finset.mem_map_of_mem barEmb (Finset.mem_univ c)))
theorem inv_own (k : Own) : Inv m κ ⊢ cellInv ER (sched m) (κ ((c : Thread nD τ), ownSem k)) ((c : Thread nD τ), ownSem k) :=
  bigSep_elim (Finset.mem_union_right _ (Finset.mem_map_of_mem ownEmb (Finset.mem_univ (c, k))))
theorem inv_fin : Inv m κ ⊢ cellInv ER (sched m) (κ (cellX c)) (cellX c) := inv_own m κ c (.inl ())
theorem inv_cp (i : Fin 3) : Inv m κ ⊢ cellInv ER (sched m) (κ (cellC c i)) (cellC c i) := inv_own m κ c (.inr (.inl i))
theorem inv_snd (r : Fin 16) : Inv m κ ⊢ cellInv ER (sched m) (κ (cellS c r)) (cellS c r) := inv_own m κ c (.inr (.inr (.inl r)))
theorem inv_rcv (r : Fin 16) : Inv m κ ⊢ cellInv ER (sched m) (κ (cellR c r)) (cellR c r) := inv_own m κ c (.inr (.inr (.inr r)))

/-- What the device owes once `n` payments are made, whatever waits it has recorded. -/
def owing (n : ℕ) : sProp 𝕄 := iprop(∃ W, owes (c : Thread nD τ) (Ow c n) W)

/-- The program of a step, run to a continuation. -/
abbrev run (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

theorem run_ret (Kt : PUnit → sProp 𝕄) : Kt ⟨⟩ ⊢ run c (.ret ⟨⟩) Kt := by
  show _ ⊢ wp _ _ _ _ _
  rw [wp_ret]
  iintro H
  imodintro
  iexact H
theorem run_bind (p : Prog (TpuEff nD τ sig (Elt F) Λ₀ .tc) PUnit) (k : PUnit → Prog (TpuEff nD τ sig (Elt F) Λ₀ .tc) PUnit)
    (Kt : PUnit → sProp 𝕄) : run c (p >>= k) Kt = run c p fun a => run c (k a) Kt := wp_bind _ _ _ _ _ _

/-! ## The contents agree -/

/-- The next and the previous device take in the same half. -/
theorem inA_dest (r : Fin 16) (hr : r.val ≠ 0) : inA m (dest c r) = inA m c := by
  have h := xc_nb c
  have e : xc (dest c r) = xc c := by
    unfold dest cls
    rw [if_neg hr]
    split_ifs
    · exact h.2.1
    · exact h.2.2.1
  have hb : inB m (dest c r) = inB m c := by
    funext k
    unfold inB
    rw [e]
  unfold inA; rw [hb]

/-! ## One operation at a time, at any device, place and semaphore -/

/-- Passing chunk `k` on to device `t`, and awaiting a transfer of a chunk. -/
def sendOp (t : Dev nD) (k : Fin 16) (s s' : DmaSem sig) : TpuEff nD τ sig (Elt F) Λ₀ .tc PUnit :=
  .enqueueDma (rV k) (.remote (Dev.tc t) (rV k) (.dma s)) (.dma s') (View.wordExact_bits rfl) (View.wordExact_bits rfl)
    ⟨⟨rfl, Or.inl rfl⟩, trivial⟩
def waitOp (k : Fin 16) (s : DmaSem sig) : TpuEff nD τ sig (Elt F) Λ₀ .tc PUnit :=
  .waitDma2 s (rV k) (rV k) (View.wordExact_bits rfl) (View.wordExact_bits rfl)

theorem wp_sendOp (t : Dev nD) (k : Fin 16) (s s' : DmaSem sig) (q : PosShare TreeShare) (g : Fin 16 → Blk F) (f : Big F)
    (κ₁ κ₂ : ℕ) {O₀ : CellTallies nD τ sig Unit} (O : CellTallies nD τ sig Unit) (W : Finset (SemLoc sig × Unit))
    (hd : (sched m).duties ((c : Thread nD τ), .dma s) 0 = {0}) (hd' : (sched m).duties ((t : Thread nD τ), .dma s') 0 = {0})
    (ha : (sched m).amount ((c : Thread nD τ), .dma s) 0 0 = N) (ha' : (sched m).amount ((t : Thread nD τ), .dma s') 0 0 = N)
    (hp : (sched m).payload ((c : Thread nD τ), .dma s) 0 0 = rP c k q (glue g))
    (hp' : (sched m).payload ((t : Thread nD τ), .dma s') 0 0 = rP t k fullShare (glue g))
    (hO : O₀ = O + tallyAt ((t : Thread nD τ), .dma s') () N) (Kt : PUnit → sProp 𝕄) :
    iprop((cellInv ER (sched m) κ₁ ((c : Thread nD τ), .dma s) ∗ cellInv ER (sched m) κ₂ ((t : Thread nD τ), .dma s')
        ∗ rP c k q (glue g) ∗ rP t k fullShare f ∗ owes (c : Thread nD τ) O₀ W
        ∗ dutyTok ER ((c : Thread nD τ), .dma s) 0 0 ∗ reached ER ((c : Thread nD τ), .dma s) 0
        ∗ dutyTok ER ((t : Thread nD τ), .dma s') 0 0 ∗ reached ER ((t : Thread nD τ), .dma s') 0)
        ∗ (iprop(cred (tallyAt ((c : Thread nD τ), .dma s) () N) ∗ owes (c : Thread nD τ) O W) -∗ Kt ⟨⟩))
      ⊢ run c (.op (sendOp t k s s') .ret) Kt := by
  unfold rP sendOp
  iintro ⟨H, Hk⟩
  iapply (Rounds.wp_send_pointsTo 𝒱₀ ER (sched m) (c : Thread nD τ) none (c' := (t : Thread nD τ)) (src := rV k)
      (dst := rV k) (sS := .dma s) (sem := .dma s') (q := q) (fs := glue g) (fd := f) (κ₁ := κ₁) (κ₂ := κ₂) (r₁ := 0) (r₂ := 0)
      (d₁ := 0) (d₂ := 0) (by rw [hd]; exact Finset.mem_singleton_self _) (by rw [hd']; exact Finset.mem_singleton_self _)
      () () N rfl ha ha' O hO (W := W)
      (by rw [hp]; exact Entails.rfl)
      (by
        rw [hp']
        refine Entails.of_eq (pointsTo_congr ?_)
        have e : (rV k).view.read (Elt F) (glue g) = g k := read_glue _ _
        rw [e]
        exact write_glue k g f)) $$ [H]
  · iexact H
  iintro H
  rw [wp_ret]
  imodintro
  iapply Hk; iexact H

/-- A wait for the whole of a round, whatever the transfer was of. -/
theorem wp_waitG {sp sp' : Space} {s s' : Shape} {e e' : EltTy} (sem : DmaSem sig) (src : Memref sig .tc sp' s' e')
    (dst : Memref sig .tc sp s e) (hsrc : src.view.WordExact) (hdst : dst.view.WordExact) (M : ℕ) (hM : dst.view.dmaCredit = M)
    (κ' : ℕ) (R : ℕ) (O : CellTallies nD τ sig Unit) (W : Finset (SemLoc sig × Unit))
    (he : (sched m).expect ((c : Thread nD τ), .dma sem) R = M) (k : PUnit → Prog (TpuEff nD τ sig (Elt F) Λ₀ .tc) PUnit)
    (Kt : PUnit → sProp 𝕄) :
    iprop((cellInv ER (sched m) κ' ((c : Thread nD τ), .dma sem) ∗ cred (tallyAt ((c : Thread nD τ), .dma sem) () M)
        ∗ owes (c : Thread nD τ) O W ∗ MayWait (c : Thread nD τ) (.dma sem) () O ∗ atPos ER ((c : Thread nD τ), .dma sem) R ∅ 0)
        ∗ (iprop(owes (c : Thread nD τ) O (insert (.dma sem, ()) W) ∗ atPos ER ((c : Thread nD τ), .dma sem) (R + 1) ∅ 0
            ∗ reached ER ((c : Thread nD τ), .dma sem) (R + 1)
            ∗ bigSep ((sched m).duties ((c : Thread nD τ), .dma sem) R \ ∅) fun d => (sched m).payload ((c : Thread nD τ), .dma sem) R d)
          -∗ run c (k ⟨⟩) Kt))
      ⊢ run c (.op (.waitDma2 sem src dst hsrc hdst) k) Kt := by
  subst hM
  iintro ⟨H, Hk⟩
  have h := Rounds.wp_wait_rest_token (Q := Kt) 𝒱₀ ER (sched m) (c : Thread nD τ) none (κ := κ') (k' := dst.view.dmaCredit) (sm := .dma sem)
      (w := .waitDma2 sem src dst hsrc hdst) (k := k)
      (wpE_waitDma2_eq (defs := defs₀ (F := F)) 𝒱₀ (c : Thread nD τ) none Set.univ) (Set.mem_univ _) () (O := O) (W := W) (R := R) (m := 0) (T := ∅)
      ((Nat.zero_add _).trans he.symm)
  iapply h $$ [H]
  · iexact H
  iexact Hk

theorem wp_waitOp (k : Fin 16) (s : DmaSem sig) (κ' : ℕ) (R : ℕ) (O : CellTallies nD τ sig Unit) (W : Finset (SemLoc sig × Unit))
    (he : (sched m).expect ((c : Thread nD τ), .dma s) R = N) (Kt : PUnit → sProp 𝕄) :
    iprop((cellInv ER (sched m) κ' ((c : Thread nD τ), .dma s) ∗ cred (tallyAt ((c : Thread nD τ), .dma s) () N)
        ∗ owes (c : Thread nD τ) O W ∗ MayWait (c : Thread nD τ) (.dma s) () O ∗ atPos ER ((c : Thread nD τ), .dma s) R ∅ 0)
        ∗ (iprop(owes (c : Thread nD τ) O (insert (.dma s, ()) W) ∗ atPos ER ((c : Thread nD τ), .dma s) (R + 1) ∅ 0
            ∗ reached ER ((c : Thread nD τ), .dma s) (R + 1)
            ∗ bigSep ((sched m).duties ((c : Thread nD τ), .dma s) R \ ∅) fun d => (sched m).payload ((c : Thread nD τ), .dma s) R d) -∗ Kt ⟨⟩))
      ⊢ run c (.op (waitOp k s) .ret) Kt := by
  unfold waitOp
  iintro ⟨H, Hk⟩
  iapply (wp_waitG m c s (rV k) (rV k) (View.wordExact_bits rfl) (View.wordExact_bits rfl) N rfl κ' R O W he .ret Kt)
  isplitl [H]
  · iexact H
  iintro H
  iapply (run_ret c Kt)
  iapply Hk; iexact H

/-! ## Sends and arrivals -/

/-- The steps of the device's plan, as operations. -/
theorem sendAt_eq (r : Fin 16) : sendAt (F := F) (plan c) r = .op (sendOp (dest c r) (kk c (pre r)) (sndS r) (rcvS r)) .ret := by
  unfold sendAt sendP plan sendOp; rfl
theorem recvAt_eq (r : Fin 16) : recvAt (F := F) (plan c) r = .op (waitOp (kk c r) (rcvS r)) .ret := by
  unfold recvAt waitP plan waitOp; rfl
theorem goneAt_eq (r : Fin 16) : goneAt (F := F) (plan c) r = .op (waitOp (kk c 0) (sndS r)) .ret := by
  unfold goneAt waitP plan waitOp; rfl

theorem goneP_eq (r : Fin 16) (hr : r.val ≠ 0) : goneP m c r = rP c (kk c (pre r)) (sh r) (inA m c) := if_neg hr
theorem comeP_eq (r : Fin 16) (hr : r.val ≠ 0) : comeP m (dest c r) r = rP (dest c r) (kk c (pre r)) fullShare (inA m c) := by
  unfold comeP; rw [kk_dest, inA_dest m c r hr]

/-- A send round the ring: the place on the neighbour and a share of the chunk go out, its counts' rights are used. -/
theorem wp_sendAt (r : Fin 16) (hr : r.val ≠ 0) (Kt : PUnit → sProp 𝕄) :
    iprop(Inv m κ ∗ reached ER (cellS c r) 0 ∗ dutyTok ER (cellS c r) 0 0 ∗ dutyTok ER (cellR (dest c r) r) 0 0 ∗ landP (dest c r) r
        ∗ rP c (kk c (pre r)) (sh r) (inA m c) ∗ owing c (r.val + 3)
        ∗ (iprop(cred (tallyAt (cellS c r) () N) ∗ owing c (r.val + 4)) -∗ Kt ⟨⟩))
      ⊢ run c (sendAt (plan c) r) Kt := by
  unfold landP owing
  rw [kk_dest, sendAt_eq]
  iintro ⟨#HI, #HrS, HtS, HtR, ⟨⟨%f, Hd⟩, #HrR⟩, Hs, ⟨%W, HO⟩, Hk⟩
  iapply (wp_sendOp m c (dest c r) (kk c (pre r)) (sndS r) (rcvS r) (sh r) (inB m c) f (κ (cellS c r)) (κ (cellR (dest c r) r))
    (Ow c (r.val + 4)) W (duties_snd m c r) (duties_rcv m _ r) (amount_snd m c r 0 0) (amount_rcv m _ r 0 0)
    ((payload_snd m c r 0 0).trans (goneP_eq m c r hr)) ((payload_rcv m _ r 0 0).trans (comeP_eq m c r hr)) (Ow_send c r) Kt)
  isplitl [Hs Hd HO HtS HtR]
  · isplitr; · iapply (inv_snd m κ c r); iexact HI
    isplitr; · iapply (inv_rcv m κ (dest c r) r); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

/-- An arrival: the chunk is in. -/
theorem wp_recvAt (r : Fin 16) (n : ℕ) (hn : r.val + 3 < n) (Kt : PUnit → sProp 𝕄) :
    iprop(Inv m κ ∗ levAts Lx lv ∗ cred (tallyAt (cellR c r) () N) ∗ atPos ER (cellR c r) 0 ∅ 0 ∗ owing c n
        ∗ (iprop(comeP m c r ∗ atPos ER (cellR c r) 1 ∅ 0 ∗ owing c n) -∗ Kt ⟨⟩))
      ⊢ run c (recvAt (plan c) r) Kt := by
  unfold owing
  rw [recvAt_eq]
  iintro ⟨#HI, #Hlev, Hc, Hat, ⟨%W, HO⟩, Hk⟩
  iapply (wp_waitOp m c (kk c r) (rcvS r) (κ (cellR c r)) 0 (Ow c n) W (expect_rcv m c r) Kt)
  isplitl [Hc HO Hat]
  · isplitr; · iapply (inv_rcv m κ c r); iexact HI
    isplitl [Hc]; · iexact Hc
    isplitl [HO]; · iexact HO
    isplitr; · iapply (mayWait_rcv c r n hn); iexact Hlev
    iexact Hat
  iintro ⟨HO, Hat, -, Hpay⟩
  ihave Hp := (Entails.of_eq (rest_rcv m c r)) $$ Hpay
  iapply Hk
  isplitl [Hp]; · iexact Hp
  isplitl [Hat]; · iexact Hat
  iexists _; iexact HO

/-- The end of a send: what it read is back. -/
theorem wp_goneAt (r : Fin 16) (n : ℕ) (Kt : PUnit → sProp 𝕄) :
    iprop(Inv m κ ∗ levAts Lx lv ∗ cred (tallyAt (cellS c r) () N) ∗ atPos ER (cellS c r) 0 ∅ 0 ∗ owing c n
        ∗ (iprop(goneP m c r ∗ atPos ER (cellS c r) 1 ∅ 0 ∗ owing c n) -∗ Kt ⟨⟩))
      ⊢ run c (goneAt (plan c) r) Kt := by
  unfold owing
  rw [goneAt_eq]
  iintro ⟨#HI, #Hlev, Hc, Hat, ⟨%W, HO⟩, Hk⟩
  iapply (wp_waitOp m c (kk c 0) (sndS r) (κ (cellS c r)) 0 (Ow c n) W (expect_snd m c r) Kt)
  isplitl [Hc HO Hat]
  · isplitr; · iapply (inv_snd m κ c r); iexact HI
    isplitl [Hc]; · iexact Hc
    isplitl [HO]; · iexact HO
    isplitr; · iapply (mayWait_snd c r n); iexact Hlev
    iexact Hat
  iintro ⟨HO, Hat, -, Hpay⟩
  ihave Hp := (Entails.of_eq (rest_snd m c r)) $$ Hpay
  iapply Hk
  isplitl [Hp]; · iexact Hp
  isplitl [Hat]; · iexact Hat
  iexists _; iexact HO

end Cert.KernelIdeal.Ring

end
-- ==== Proof.Meet.lean ====
/- How the devices come in, exchange their halves with their partners, and leave. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## Signals -/

/-- A signal of one to device `t`, paying a duty of the first round there. -/
theorem wp_signalOp (t : Dev nD) (s : Sem sig) (d : Fin 3) (κ' : ℕ) {O₀ : CellTallies nD τ sig Unit} (O : CellTallies nD τ sig Unit)
    (W : Finset (SemLoc sig × Unit)) (hd : (sched m).duties ((t : Thread nD τ), .reg s) 0 = Finset.univ)
    (ha : (sched m).amount ((t : Thread nD τ), .reg s) 0 d = 1) (hO : O₀ = O + tallyAt ((t : Thread nD τ), .reg s) () 1)
    (Kt : PUnit → sProp 𝕄) :
    iprop((cellInv ER (sched m) κ' ((t : Thread nD τ), .reg s) ∗ owes (c : Thread nD τ) O₀ W
        ∗ dutyTok ER ((t : Thread nD τ), .reg s) 0 d ∗ (sched m).payload ((t : Thread nD τ), .reg s) 0 d
        ∗ reached ER ((t : Thread nD τ), .reg s) 0)
        ∗ (owes (c : Thread nD τ) O W -∗ Kt ⟨⟩))
      ⊢ run c (semSignalWord t s 1#32) Kt := by
  iintro ⟨H, Hk⟩
  iapply (Rounds.wp_signal 𝒱₀ ER (sched m) (c : Thread nD τ) none (dst := (t : Thread nD τ)) (sem := s) (r := 0) (d := d) (k' := 1)
      (κ := κ') (by rw [hd]; exact Finset.mem_univ _) ha () O hO) $$ [H]
  · iexact H
  iintro H
  iapply (run_ret c Kt)
  iapply Hk; iexact H

/-- A wait for the three signals of a round. -/
theorem wp_waitThree (s : Sem sig) (κ' : ℕ) (O : CellTallies nD τ sig Unit) (W : Finset (SemLoc sig × Unit))
    (he : (sched m).expect ((c : Thread nD τ), .reg s) 0 = 3) (Kt : PUnit → sProp 𝕄) :
    iprop((cellInv ER (sched m) κ' ((c : Thread nD τ), .reg s) ∗ cred (tallyAt ((c : Thread nD τ), .reg s) () 3)
        ∗ owes (c : Thread nD τ) O W ∗ MayWait (c : Thread nD τ) (.reg s) () O ∗ atPos ER ((c : Thread nD τ), .reg s) 0 ∅ 0)
        ∗ (iprop(owes (c : Thread nD τ) O (insert (.reg s, ()) W) ∗ atPos ER ((c : Thread nD τ), .reg s) 1 ∅ 0
            ∗ reached ER ((c : Thread nD τ), .reg s) 1
            ∗ bigSep ((sched m).duties ((c : Thread nD τ), .reg s) 0 \ ∅) fun d => (sched m).payload ((c : Thread nD τ), .reg s) 0 d)
          -∗ Kt ⟨⟩))
      ⊢ run c (semWaitWord s 3#32) Kt := by
  iintro ⟨H, Hk⟩
  iapply (Rounds.wp_wait_rest_token 𝒱₀ ER (sched m) (c : Thread nD τ) none (κ := κ') (k' := 3) (sm := .reg s)
      (wpE_semWait_eq 𝒱₀ (c : Thread nD τ) none Set.univ) (Set.mem_univ _) () (O := O) (W := W) (R := 0) (m := 0) (T := ∅)
      ((Nat.zero_add _).trans he.symm)) $$ [H]
  · iexact H
  iintro H
  iapply (run_ret c Kt)
  iapply Hk; iexact H

/-! ## Coming in -/

theorem three (Φ : Fin 3 → sProp 𝕄) : bigSep Finset.univ Φ = iprop(Φ 0 ∗ Φ 1 ∗ Φ 2) :=
  bigSep_univ_eq_bigSepL [0, 1, 2] (by decide) (by decide) Φ

/-- The sends by the three to whom they go. -/
theorem by_class (Φ : Fin 16 → sProp 𝕄) :
    bigSep Finset.univ Φ = bigSep Finset.univ fun d : Fin 3 => bigSep (Finset.univ.filter fun r : Fin 16 => cls r = d) Φ := by
  have e : (Finset.univ : Finset (Fin 16)) = Finset.univ.biUnion fun d : Fin 3 => Finset.univ.filter fun r : Fin 16 => cls r = d := by
    ext r; simp
  conv_lhs => rw [e]
  exact Idealize.SL.BI.bigSep_biUnion_eq _ _ Φ fun d _ d' _ h =>
    Finset.disjoint_left.mpr fun r h1 h2 => h ((Finset.mem_filter.mp h1).2.symm.trans (Finset.mem_filter.mp h2).2)

/-- The places of the device's own arrivals from `d`, and its leaving count open: what it hands to `d`. -/
def mineP (d : Fin 3) : sProp 𝕄 :=
  iprop((bigSep (Finset.univ.filter fun r : Fin 16 => cls r = d) fun r => landP c r) ∗ reached ER (cellX c) 0)

theorem payload_meet (d : Fin 3) : (sched (F := F) m).payload (cellB (nb c d)) 0 (dual d) = mineP c (dual d) := by
  rw [payload_bar]; unfold meetP mineP; rw [nb_dual]

theorem wp_tell (d : Fin 3) (n n' : ℕ) (hn : n = d.val) (hn' : n' = d.val + 1) (Kt : PUnit → sProp 𝕄) :
    iprop(Inv m κ ∗ owing c n ∗ dutyTok ER (cellB (nb c d)) 0 (dual d) ∗ mineP c (dual d) ∗ reached ER (cellB (nb c d)) 0
        ∗ (owing c n' -∗ Kt ⟨⟩))
      ⊢ run c (semSignalWord (nb c d) bar 1#32) Kt := by
  subst hn hn'
  unfold owing
  iintro ⟨#HI, ⟨%W, HO⟩, Ht, Hp, #Hr, Hk⟩
  iapply (wp_signalOp m c (nb c d) bar (dual d) (κ (cellB (nb c d))) (Ow c (d.val + 1)) W (duties_bar m _) (amount_bar m _ 0 _) (Ow_bar c d) Kt)
  isplitl [HO Ht Hp]
  · isplitr; · iapply (inv_bar m κ (nb c d)); iexact HI
    isplitl [HO]; · iexact HO
    isplitl [Ht]; · iexact Ht
    isplitl [Hp]; · rw [payload_meet]; iexact Hp
    iexact Hr
  iintro HO
  iapply Hk; iexists _; iexact HO

theorem land_dest : (bigSep Finset.univ fun d : Fin 3 => bigSep (Finset.univ.filter fun r : Fin 16 => cls r = d) fun r => landP (F := F) (nb c d) r)
    = bigSep Finset.univ fun d : Fin 3 => bigSep (Finset.univ.filter fun r : Fin 16 => cls r = d) fun r => landP (dest c r) r :=
  bigSep_congr fun d _ => bigSep_congr fun r hr => by unfold dest; rw [(Finset.mem_filter.mp hr).2]

/-- The devices come in: each hands the three that will write to it the places of those sends, and gets the places of its own
    sends from them. -/
theorem wp_meetAt (Kt : PUnit → sProp 𝕄) :
    iprop(Inv m κ ∗ levAts Lx lv ∗ cred (tallyAt (cellB c) () 3) ∗ atPos ER (cellB c) 0 ∅ 0 ∗ reached ER (cellX c) 0
        ∗ (bigSep Finset.univ fun d : Fin 3 => dutyTok ER (cellB (nb c d)) 0 (dual d))
        ∗ (bigSep Finset.univ fun d : Fin 3 => reached ER (cellB (nb c d)) 0)
        ∗ (bigSep Finset.univ fun r : Fin 16 => landP c r) ∗ owing c 0
        ∗ (iprop(atPos ER (cellB c) 1 ∅ 0 ∗ (bigSep Finset.univ fun r : Fin 16 => landP (dest c r) r)
            ∗ (bigSep Finset.univ fun d : Fin 3 => reached ER (cellX (nb c d)) 0) ∗ owing c 3) -∗ Kt ⟨⟩))
      ⊢ run c (meetAt (plan c)) Kt := by
  have e : meetAt (F := F) (plan c) = (semSignalWord (nb c 0) bar 1#32 >>= fun _ => semSignalWord (nb c 1) bar 1#32 >>= fun _ =>
      semSignalWord (nb c 2) bar 1#32 >>= fun _ => semWaitWord bar 3#32) := by unfold meetAt plan; rfl
  rw [e, run_bind, run_bind, run_bind, by_class, three, three, three]
  iintro ⟨#HI, #Hlev, Hc, Hat, #HrX, ⟨Ht0, Ht1, Ht2⟩, ⟨#Hr0, #Hr1, #Hr2⟩, ⟨Hp0, Hp1, Hp2⟩, HO, Hk⟩
  iapply (wp_tell m κ c 0 0 1 rfl rfl)
  isplitr; · iexact HI
  isplitl [HO]; · iexact HO
  isplitl [Ht0]; · iexact Ht0
  isplitl [Hp0]; · unfold mineP; isplitl [Hp0]; · iexact Hp0
                   iexact HrX
  isplitr; · iexact Hr0
  iintro HO
  iapply (wp_tell m κ c 1 1 2 rfl rfl)
  isplitr; · iexact HI
  isplitl [HO]; · iexact HO
  isplitl [Ht1]; · iexact Ht1
  isplitl [Hp2]; · unfold mineP; isplitl [Hp2]; · iexact Hp2
                   iexact HrX
  isplitr; · iexact Hr1
  iintro HO
  iapply (wp_tell m κ c 2 2 3 rfl rfl)
  isplitr; · iexact HI
  isplitl [HO]; · iexact HO
  isplitl [Ht2]; · iexact Ht2
  isplitl [Hp1]; · unfold mineP; isplitl [Hp1]; · iexact Hp1
                   iexact HrX
  isplitr; · iexact Hr2
  unfold owing
  iintro ⟨%W, HO⟩
  iapply (wp_waitThree m c bar (κ (cellB c)) (Ow c 3) W (expect_bar m c))
  isplitl [HO Hc Hat]
  · isplitr; · iapply (inv_bar m κ c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold meetP
  ihave Hp := (Entails.of_eq (bigSep_sep' _ _ _)) $$ Hp
  icases Hp with ⟨Hl, Hx⟩
  iapply Hk
  isplitl [Hat]; · iexact Hat
  isplitl [Hl]
  · rw [by_class (F := F) fun r => landP (dest c r) r]
    iapply (Entails.of_eq (land_dest c))
    iexact Hl
  isplitl [Hx]; · iexact Hx
  iexists _; iexact HO

/-! ## Leaving -/

theorem wp_bye (d : Fin 3) (n n' : ℕ) (hn : n = d.val + 19) (hn' : n' = d.val + 20) (Kt : PUnit → sProp 𝕄) :
    iprop(Inv m κ ∗ owing c n ∗ dutyTok ER (cellX (nb c d)) 0 (dual d) ∗ reached ER (cellX (nb c d)) 0
        ∗ (owing c n' -∗ Kt ⟨⟩))
      ⊢ run c (semSignalWord (nb c d) fin 1#32) Kt := by
  subst hn hn'
  unfold owing
  iintro ⟨#HI, ⟨%W, HO⟩, Ht, #Hr, Hk⟩
  iapply (wp_signalOp m c (nb c d) fin (dual d) (κ (cellX (nb c d))) (Ow c (d.val + 20)) W (duties_fin m _) (amount_fin m _ 0 _) (Ow_fin c d) Kt)
  isplitl [HO Ht]
  · isplitr; · iapply (inv_fin m κ (nb c d)); iexact HI
    isplitl [HO]; · iexact HO
    isplitl [Ht]; · iexact Ht
    isplitr; · rw [payload_fin]; iempintro
    iexact Hr
  iintro HO
  iapply Hk; iexists _; iexact HO

/-- The devices leave together, owing nothing any more. -/
theorem wp_partAt (Kt : PUnit → sProp 𝕄) :
    iprop(Inv m κ ∗ cred (tallyAt (cellX c) () 3) ∗ atPos ER (cellX c) 0 ∅ 0
        ∗ (bigSep Finset.univ fun d : Fin 3 => dutyTok ER (cellX (nb c d)) 0 (dual d))
        ∗ (bigSep Finset.univ fun d : Fin 3 => reached ER (cellX (nb c d)) 0) ∗ owing c 19
        ∗ (iprop(atPos ER (cellX c) 1 ∅ 0 ∗ owing c 22) -∗ Kt ⟨⟩))
      ⊢ run c (partAt (plan c)) Kt := by
  have e : partAt (F := F) (plan c) = (semSignalWord (nb c 0) fin 1#32 >>= fun _ => semSignalWord (nb c 1) fin 1#32 >>= fun _ =>
      semSignalWord (nb c 2) fin 1#32 >>= fun _ => semWaitWord fin 3#32) := by unfold partAt plan; rfl
  rw [e, run_bind, run_bind, run_bind, three, three]
  iintro ⟨#HI, Hc, Hat, ⟨Ht0, Ht1, Ht2⟩, ⟨#Hr0, #Hr1, #Hr2⟩, HO, Hk⟩
  iapply (wp_bye m κ c 0 19 20 rfl rfl)
  isplitr; · iexact HI
  isplitl [HO]; · iexact HO
  isplitl [Ht0]; · iexact Ht0
  isplitr; · iexact Hr0
  iintro HO
  iapply (wp_bye m κ c 1 20 21 rfl rfl)
  isplitr; · iexact HI
  isplitl [HO]; · iexact HO
  isplitl [Ht1]; · iexact Ht1
  isplitr; · iexact Hr1
  iintro HO
  iapply (wp_bye m κ c 2 21 22 rfl rfl)
  isplitr; · iexact HI
  isplitl [HO]; · iexact HO
  isplitl [Ht2]; · iexact Ht2
  isplitr; · iexact Hr2
  unfold owing
  iintro ⟨%W, HO⟩
  iapply (wp_waitThree m c fin (κ (cellX c)) (Ow c 22) W (expect_fin m c))
  isplitl [HO Hc Hat]
  · isplitr; · iapply (inv_fin m κ c); iexact HI
    isplitl [Hc]; · iexact Hc
    isplitl [HO]; · iexact HO
    isplitr; · rw [Ow_end, MayWait_zero]; iempintro
    iexact Hat
  iintro ⟨HO, Hat, -, -⟩
  iapply Hk
  isplitl [Hat]; · iexact Hat
  iexists _; iexact HO

/-! ## The first exchange -/

/-- The exchange with device `t`: half `x` of chunk `k` goes to `t`'s received half at chunk `k'`. -/
def swapOp (t : Dev nD) (x : ℕ) (k k' : Fin 16) (s s' : DmaSem sig) : TpuEff nD τ sig (Elt F) Λ₀ .tc PUnit :=
  .enqueueDma (xV x k) (.remote (Dev.tc t) (rV k') (.dma s)) (.dma s') ((View.wordExact_bits rfl).reshape _ _)
    (View.wordExact_bits rfl) ⟨⟨rfl, Or.inl rfl⟩, trivial⟩

theorem wp_swapOp (t : Dev nD) (x : ℕ) (k k' : Fin 16) (s s' : DmaSem sig) (g : Fin 16 → Blk F) (f : Big F)
    (fs : Buf (Elt F) ((c : Thread nD τ).loc main_arg0))
    (κ₁ κ₂ : ℕ) {O₀ : CellTallies nD τ sig Unit} (O : CellTallies nD τ sig Unit) (W : Finset (SemLoc sig × Unit))
    (hd : (sched m).duties ((c : Thread nD τ), .dma s) 0 = {0}) (hd' : (sched m).duties ((t : Thread nD τ), .dma s') 0 = {0})
    (ha : (sched m).amount ((c : Thread nD τ), .dma s) 0 0 = N) (ha' : (sched m).amount ((t : Thread nD τ), .dma s') 0 0 = N)
    (hp : (sched m).payload ((c : Thread nD τ), .dma s) 0 0
      = iprop((xV x k).view.loc (c : Thread nD τ) ↦[(xV x k).view.set]{fullShare} fs))
    (hp' : (sched m).payload ((t : Thread nD τ), .dma s') 0 0 = rP t k' fullShare (glue g))
    (hg : (xV x k).view.read (Elt F) fs = g k')
    (hO : O₀ = O + tallyAt ((t : Thread nD τ), .dma s') () N) (Kt : PUnit → sProp 𝕄) :
    iprop((cellInv ER (sched m) κ₁ ((c : Thread nD τ), .dma s) ∗ cellInv ER (sched m) κ₂ ((t : Thread nD τ), .dma s')
        ∗ ((xV x k).view.loc (c : Thread nD τ) ↦[(xV x k).view.set]{fullShare} fs) ∗ rP t k' fullShare f ∗ owes (c : Thread nD τ) O₀ W
        ∗ dutyTok ER ((c : Thread nD τ), .dma s) 0 0 ∗ reached ER ((c : Thread nD τ), .dma s) 0
        ∗ dutyTok ER ((t : Thread nD τ), .dma s') 0 0 ∗ reached ER ((t : Thread nD τ), .dma s') 0)
        ∗ (iprop(cred (tallyAt ((c : Thread nD τ), .dma s) () N) ∗ owes (c : Thread nD τ) O W) -∗ Kt ⟨⟩))
      ⊢ run c (.op (swapOp t x k k' s s') .ret) Kt := by
  unfold rP swapOp
  iintro ⟨H, Hk⟩
  iapply (Rounds.wp_send_pointsTo 𝒱₀ ER (sched m) (c : Thread nD τ) none (c' := (t : Thread nD τ)) (src := xV x k)
      (dst := rV k') (sS := .dma s) (sem := .dma s') (q := fullShare) (fs := fs) (fd := f) (κ₁ := κ₁) (κ₂ := κ₂) (r₁ := 0) (r₂ := 0)
      (d₁ := 0) (d₂ := 0) (by rw [hd]; exact Finset.mem_singleton_self _) (by rw [hd']; exact Finset.mem_singleton_self _)
      () () N rfl ha ha' O hO (W := W)
      (by rw [hp])
      (by
        rw [hp', hg]
        exact Entails.of_eq (pointsTo_congr (write_glue k' g f)))) $$ [H]
  · iexact H
  iintro H
  iapply (run_ret c Kt)
  iapply Hk; iexact H

/-- What the partner reads for `c` is the half `c` keeps, of the partner's chunk. -/
theorem inB_partner : ∀ c : Dev nD, xc (nb c 0) % 2 = (xc c + 1) % 2 ∧ devAt (xc (nb c 0) + 1) (pos c) = c := by decide +kernel
theorem give_read : (xV (xc c + 1) (pos c)).view.read (Elt F) (argOf m c) = inB m (dest c 0) (pos c) := by
  have hx : xoff (xc c + 1) = xoff (xc (nb c 0)) := by
    unfold xoff; rw [(inB_partner c).1]
  show _ = (xV (xc (nb c 0)) (pos c)).view.read (Elt F) (argOf m (devAt (xc (nb c 0) + 1) (pos c)))
  rw [(inB_partner c).2]
  have key : ∀ (o o' : Fin 3 → ℕ) (h : InX o) (h' : InX o'), o = o' →
      (xC o h).view.read (Elt F) (argOf m c) = (xC o' h').view.read (Elt F) (argOf m c) := by
    rintro o _ h _ rfl; rfl
  exact key _ _ _ _ (congrFun hx (pos c))
theorem kk_zero : kk c 0 = pos c := if_pos rfl
theorem kk_dest_zero : ∀ c : Dev nD, kk (dest c 0) 0 = pos c := by decide +kernel

theorem goneP_zero : goneP m c 0 = giveP m c := if_pos rfl

/-- The first exchange, its departure and its arrival. -/
def swapAll (P : Plan) : Prog (TpuEff nD τ sig (Elt F) Λ₀ .tc) PUnit := do
  swapP (P.D 0) P.oS P.hS (P.oR 0) (P.hR 0) (sndS 0) (rcvS 0)
  swapOutP P.oS P.hS (P.oR 0) (P.hR 0) (sndS 0)
  swapInP P.oS P.hS (P.oR 0) (P.hR 0) (rcvS 0)

def swapOutOp (x : ℕ) (k k' : Fin 16) (s : DmaSem sig) : TpuEff nD τ sig (Elt F) Λ₀ .tc PUnit :=
  .waitDma2 s (rV k') (xV x k) (View.wordExact_bits rfl) ((View.wordExact_bits rfl).reshape _ _)
def swapInOp (x : ℕ) (k k' : Fin 16) (s : DmaSem sig) : TpuEff nD τ sig (Elt F) Λ₀ .tc PUnit :=
  .waitDma2 s (xV x k) (rV k') ((View.wordExact_bits rfl).reshape _ _) (View.wordExact_bits rfl)

theorem swapAll_eq : swapAll (F := F) (plan c) = (Prog.op (swapOp (dest c 0) (xc c + 1) (pos c) (kk c 0) (sndS 0) (rcvS 0)) .ret >>= fun _ =>
    Prog.op (swapOutOp (xc c + 1) (pos c) (kk c 0) (sndS 0)) .ret >>= fun _ =>
    Prog.op (swapInOp (xc c + 1) (pos c) (kk c 0) (rcvS 0)) .ret) := by
  unfold swapAll swapP swapOutP swapInP plan swapOp swapOutOp swapInOp; rfl

set_option maxHeartbeats 1000000 in
theorem wp_swapAll (Kt : PUnit → sProp 𝕄) :
    iprop(Inv m κ ∗ levAts Lx lv ∗ reached ER (cellS c 0) 0 ∗ dutyTok ER (cellS c 0) 0 0 ∗ dutyTok ER (cellR (dest c 0) 0) 0 0
        ∗ landP (dest c 0) 0 ∗ giveP m c ∗ cred (tallyAt (cellR c 0) () N) ∗ atPos ER (cellS c 0) 0 ∅ 0 ∗ atPos ER (cellR c 0) 0 ∅ 0
        ∗ owing c 3
        ∗ (iprop(giveP m c ∗ comeP m c 0 ∗ atPos ER (cellS c 0) 1 ∅ 0 ∗ atPos ER (cellR c 0) 1 ∅ 0 ∗ owing c 4) -∗ Kt ⟨⟩))
      ⊢ run c (swapAll (plan c)) Kt := by
  rw [swapAll_eq, run_bind, run_bind]
  unfold owing landP
  rw [kk_dest_zero, kk_zero]
  iintro ⟨#HI, #Hlev, #HrS, HtS, HtR, ⟨⟨%f, Hd⟩, #HrR⟩, Hs, Hc, HaS, HaR, ⟨%W, HO⟩, Hk⟩
  iapply (wp_swapOp m c (dest c 0) (xc c + 1) (pos c) (pos c) (sndS 0) (rcvS 0) (inB m (dest c 0)) f (argOf m c)
    (κ (cellS c 0)) (κ (cellR (dest c 0) 0)) (Ow c 4) W (duties_snd m c 0) (duties_rcv m _ 0) (amount_snd m c 0 0 0) (amount_rcv m _ 0 0 0)
    ((payload_snd m c 0 0 0).trans (goneP_zero m c)) ((payload_rcv m _ 0 0 0).trans (by unfold comeP; rw [kk_dest_zero]; rfl))
    (give_read m c) (Ow_send c 0))
  isplitl [Hs Hd HO HtS HtR]
  · isplitr; · iapply (inv_snd m κ c 0); iexact HI
    isplitr; · iapply (inv_rcv m κ (dest c 0) 0); iexact HI
    isplitl [Hs]; · unfold giveP; iexact Hs
    isplitl [Hd]; · iexact Hd
    isplitl [HO]; · iexact HO
    isplitl [HtS]; · iexact HtS
    isplitr; · iexact HrS
    isplitl [HtR]; · iexact HtR
    iexact HrR
  iintro ⟨HcS, HO⟩
  unfold swapOutOp
  iapply (wp_waitG m c (sndS 0) (rV (pos c)) (xV (xc c + 1) (pos c)) (View.wordExact_bits rfl) ((View.wordExact_bits rfl).reshape _ _) N rfl
    (κ (cellS c 0)) 0 (Ow c 4) W (expect_snd m c 0) .ret)
  isplitl [HcS HO HaS]
  · isplitr; · iapply (inv_snd m κ c 0); iexact HI
    isplitl [HcS]; · iexact HcS
    isplitl [HO]; · iexact HO
    isplitr; · iapply (mayWait_snd c 0 4); iexact Hlev
    iexact HaS
  iintro ⟨HO, HaS, -, Hpay⟩
  ihave Hg := (Entails.of_eq (rest_snd m c 0)) $$ Hpay
  iapply (run_ret c _)
  unfold swapInOp
  iapply (wp_waitG m c (rcvS 0) (xV (xc c + 1) (pos c)) (rV (pos c)) ((View.wordExact_bits rfl).reshape _ _) (View.wordExact_bits rfl) N rfl
    (κ (cellR c 0)) 0 (Ow c 4) _ (expect_rcv m c 0) .ret)
  isplitl [Hc HO HaR]
  · isplitr; · iapply (inv_rcv m κ c 0); iexact HI
    isplitl [Hc]; · iexact Hc
    isplitl [HO]; · iexact HO
    isplitr; · iapply (mayWait_rcv c 0 4 (by decide)); iexact Hlev
    iexact HaR
  iintro ⟨HO, HaR, -, Hpay⟩
  ihave Hr := (Entails.of_eq (rest_rcv m c 0)) $$ Hpay
  iapply (run_ret c _)
  iapply Hk
  isplitl [Hg]; · iapply (Entails.of_eq (goneP_zero m c)); iexact Hg
  isplitl [Hr]; · iexact Hr
  isplitl [HaS]; · iexact HaS
  isplitl [HaR]; · iexact HaR
  iexists _; iexact HO

end Cert.KernelIdeal.Ring

end
-- ==== Proof.Adds.lean ====
/- One chunk added: the device's own half and the received half copied in, summed, and the sum copied out. -/
module

public import proofs.«01_k».proof.Proof.Meet

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## The operations -/

/-- The steps of a sum, by the half and the chunk. -/
def inXOp (x : ℕ) (k : Fin 16) : TpuEff nD τ sig (Elt F) Λ₀ .tc PUnit :=
  .enqueueDma (xV x k) (.here aM) (.dma (cpS 0)) ((View.wordExact_bits rfl).reshape _ _) (Memref.isWhole_whole _).wordExact ⟨Or.inl rfl, trivial⟩
def inROp (k : Fin 16) : TpuEff nD τ sig (Elt F) Λ₀ .tc PUnit :=
  .enqueueDma (rV k) (.here bM) (.dma (cpS 1)) (View.wordExact_bits rfl) (Memref.isWhole_whole _).wordExact ⟨Or.inl rfl, trivial⟩
def outOp (k : Fin 16) : TpuEff nD τ sig (Elt F) Λ₀ .tc PUnit :=
  .enqueueDma sM (.here (yV k)) (.dma (cpS 2)) (Memref.isWhole_whole _).wordExact (View.wordExact_bits rfl) ⟨Or.inl rfl, trivial⟩
def inXWait (x : ℕ) (k : Fin 16) : TpuEff nD τ sig (Elt F) Λ₀ .tc PUnit :=
  .waitDma2 (cpS 0) (xV x k) aM ((View.wordExact_bits rfl).reshape _ _) (Memref.isWhole_whole _).wordExact
def inRWait (k : Fin 16) : TpuEff nD τ sig (Elt F) Λ₀ .tc PUnit :=
  .waitDma2 (cpS 1) (rV k) bM (View.wordExact_bits rfl) (Memref.isWhole_whole _).wordExact
def outWait (k : Fin 16) : TpuEff nD τ sig (Elt F) Λ₀ .tc PUnit :=
  .waitDma2 (cpS 2) sM (yV k) (Memref.isWhole_whole _).wordExact (View.wordExact_bits rfl)

/-- The sum of the two blocks in scratch. -/
def sumP : Prog (TpuEff nD τ sig (Elt F) Λ₀ .tc) PUnit := do
  let va : Vec F S1024x1024 .f32 ← Prog.lift (.load aM full.toLoadRect (View.loadsAt_vmem h_S1024x1024))
  let vb : Vec F S1024x1024 .f32 ← Prog.lift (.load bM full.toLoadRect (View.loadsAt_vmem h_S1024x1024))
  let _ ← Prog.lift (.load sM full.toLoadRect (View.loadsAt_vmem h_S1024x1024))
  Prog.lift (.store sM full (Gen.k0_pay1 va vb) Finset.univ (View.stores_vmem_bits_univ h_S1024x1024 rfl) (.inl rfl))

def addOps (x : ℕ) (k : Fin 16) : Prog (TpuEff nD τ sig (Elt F) Λ₀ .tc) PUnit :=
  Prog.op (inXOp x k) .ret >>= fun _ => Prog.op (inROp k) .ret >>= fun _ => Prog.op (inXWait x k) .ret >>= fun _ =>
  Prog.op (inRWait k) .ret >>= fun _ => sumP >>= fun _ => Prog.op (outOp k) .ret >>= fun _ => Prog.op (outWait k) .ret

theorem addP_eq (x : ℕ) (k : Fin 16) : addP (F := F) (xoff x k) (xoff_in x k) (roff k) (roff_in k) = addOps x k := by
  unfold addP addOps inXOp inROp inXWait inRWait sumP outOp outWait; rfl
theorem addAt_eq (r : Fin 16) : addAt (F := F) (plan c) r = addOps (xc c) (kk c r) :=
  (show addAt (F := F) (plan c) r = addP (xoff (xc c) (kk c r)) (xoff_in _ _) (roff (kk c r)) (roff_in _) by unfold addAt plan; rfl).trans
    (addP_eq _ _)

/-! ## Each operation -/

/-- A local copy paying its count's duty. -/
theorem wp_copyG {sp sp' : Space} {s : Shape} {e : EltTy} (sem : DmaSem sig) (src : Memref sig .tc sp s e) (dst : Memref sig .tc sp' s e)
    (hsrc : src.view.WordExact) (hdst : dst.view.WordExact) (hsem : DmaTarget.Typed sp (.dma sem) (.here dst : DmaTarget nD τ sig .tc sp' s e)) (M : ℕ)
    (hM : dst.view.dmaCredit = M) (κ' : ℕ) (R : ℕ) (q : PosShare TreeShare) (fs : Buf (Elt F) (src.view.loc (c : Thread nD τ)))
    (fd : Buf (Elt F) (dst.view.loc (c : Thread nD τ))) (P : sProp 𝕄)
    (hd : (sched m).duties ((c : Thread nD τ), .dma sem) R = {0}) (ha : (sched m).amount ((c : Thread nD τ), .dma sem) R 0 = M)
    (hp : (sched m).payload ((c : Thread nD τ), .dma sem) R 0 = P)
    (hP : iprop((dst.view.loc (c : Thread nD τ) ↦[dst.view.set]{fullShare} (dst.view.write (Elt F) fd (src.view.read (Elt F) fs) Finset.univ))
        ∗ (src.view.loc (c : Thread nD τ) ↦[src.view.set]{q} fs)) ⊢ P) (Kt : PUnit → sProp 𝕄) :
    iprop((cellInv ER (sched m) κ' ((c : Thread nD τ), .dma sem) ∗ (src.view.loc (c : Thread nD τ) ↦[src.view.set]{q} fs)
        ∗ (dst.view.loc (c : Thread nD τ) ↦[dst.view.set]{fullShare} fd)
        ∗ dutyTok ER ((c : Thread nD τ), .dma sem) R 0 ∗ reached ER ((c : Thread nD τ), .dma sem) R)
        ∗ (cred (tallyAt ((c : Thread nD τ), .dma sem) () M) -∗ Kt ⟨⟩))
      ⊢ run c (.op (.enqueueDma src (.here dst) (.dma sem) hsrc hdst hsem) .ret) Kt := by
  subst hM
  iintro ⟨H, Hk⟩
  iapply (Rounds.wp_copy_pointsTo 𝒱₀ ER (sched m) (c : Thread nD τ) none (src := src) (dst := dst) (sem := .dma sem)
      (hsrc := hsrc) (hdst := hdst) (hsem := hsem) (k := .ret) (q := q) (fs := fs) (fd := fd) (κ := κ') (r := R) (d := 0)
      (by rw [hd]; exact Finset.mem_singleton_self _) () dst.view.dmaCredit rfl ha (by rw [hp]; exact hP)) $$ [H]
  · iexact H
  iintro H
  iapply (run_ret c Kt)
  iapply Hk; iexact H

/-- The vector part: the third scratch block holds the sum of the other two. -/
theorem wp_sumP (fa fb fs : Blk F) (Kt : PUnit → sProp 𝕄) :
    iprop(aP c fa ∗ bP c fb ∗ sP c fs
        ∗ (iprop(aP c fa ∗ bP c fb ∗ sP c (Gen.k0_pay1 (F := F) fa fb)) -∗ Kt ⟨⟩))
      ⊢ run c sumP Kt := by
  have h0 : (![0, 0] : Fin 2 → ℕ) = fun _ => 0 := by decide
  have ra : aM.view.readAt (Elt F) full.toLoadRect fa = fa := Memref.readAt_unit_zero (Elt F) cc0_scratch0 h0 _ fa
  have rb : bM.view.readAt (Elt F) full.toLoadRect fb = fb := Memref.readAt_unit_zero (Elt F) cc0_scratch1 h0 _ fb
  have ws : (sM.access full).write (Elt F) fs (Gen.k0_pay1 (F := F) fa fb) Finset.univ = Gen.k0_pay1 (F := F) fa fb :=
    Memref.write_access_unit_zero_univ (Elt F) cc0_scratch2 h0 _ fs _
  have sa : ∀ S, S ⊆ aM.view.set := fun S => by rw [View.set_whole]; exact Finset.subset_univ _
  have sb : ∀ S, S ⊆ bM.view.set := fun S => by rw [View.set_whole]; exact Finset.subset_univ _
  have ss : ∀ S, S ⊆ sM.view.set := fun S => by rw [View.set_whole]; exact Finset.subset_univ _
  unfold aP bP sP
  iintro ⟨Ha, Hb, Hs, Hk⟩
  iapply (wp_load 𝒱₀ (c : Thread nD τ) none Set.univ (m := aM) (r := full.toLoadRect) (S := aM.view.set) (sa _)) $$ Ha
  iintro Ha
  iapply (wp_load 𝒱₀ (c : Thread nD τ) none Set.univ (m := bM) (r := full.toLoadRect) (S := bM.view.set) (sb _)) $$ Hb
  iintro Hb
  iapply (wp_load 𝒱₀ (c : Thread nD τ) none Set.univ (m := sM) (r := full.toLoadRect) (S := sM.view.set) (ss _)) $$ Hs
  iintro Hs
  rw [ra, rb]
  iapply (wp_store 𝒱₀ (c : Thread nD τ) none Set.univ (m := sM) (r := full) (Mk := Finset.univ) (S := sM.view.set) (ss _)) $$ Hs
  iintro Hs
  rw [ws]
  iapply (run_ret c Kt)
  iapply Hk
  isplitl [Ha]; · iexact Ha
  isplitl [Hb]; · iexact Hb
  iexact Hs

/-! ## A sum -/

/-- The local copies' counts, at round `r`, and the rights to their duties there. -/
def cpAt (r : ℕ) : sProp 𝕄 := bigSep Finset.univ fun i : Fin 3 => iprop(atPos ER (cellC c i) r ∅ 0 ∗ reached ER (cellC c i) r)
def cpTok (r : ℕ) : sProp 𝕄 := bigSep Finset.univ fun i : Fin 3 => dutyTok ER (cellC c i) r 0
/-- The three scratch blocks, at contents not chosen. -/
def scr : sProp 𝕄 := iprop((∃ f, aP (F := F) c f) ∗ (∃ f, bP (F := F) c f) ∗ ∃ f, sP (F := F) c f)
/-- The device's argument, whole. -/
def argW : sProp 𝕄 := (c : Thread nD τ).loc main_arg0 ↦{fullShare} argOf m c

/-- A block of the argument, and the rest of it. -/
def argP (x : ℕ) (k : Fin 16) : sProp 𝕄 := (xV x k).view.loc (c : Thread nD τ) ↦[(xV x k).view.set]{fullShare} argOf m c
def argRest (x : ℕ) (k : Fin 16) : sProp 𝕄 := (c : Thread nD τ).loc main_arg0 ↦[Finset.univ \ (xV x k).view.set]{fullShare} argOf m c
theorem arg_carve (x : ℕ) (k : Fin 16) : argW m c ⊣⊢ iprop(argP m c x k ∗ argRest m c x k) :=
  pointsTo_split_subset (Finset.subset_univ _)

theorem copyP0 (r : Fin 16) : copyP m c r 0 = iprop(aP c (ownB m c (kk c r)) ∗ keepP m c r) := if_pos rfl
theorem copyP1 (r : Fin 16) : copyP m c r 1 = iprop(bP c (inB m c (kk c r)) ∗ rP c (kk c r) (kept r) (inA m c)) :=
  (if_neg (by decide)).trans (if_pos rfl)
theorem copyP2 (r : Fin 16) : copyP m c r 2 = iprop(yP c (kk c r) (sumA m c) ∗ sP c (sumB m c (kk c r))) :=
  (if_neg (by decide)).trans (if_neg (by decide))

/-- The copies in and out leave what they say they leave. -/
theorem landX (x : ℕ) (k : Fin 16) (f : Blk F) (g : Blk F) (fx : Buf (Elt F) ((c : Thread nD τ).loc main_arg0)) (P : sProp 𝕄)
    (hg : (xV x k).view.read (Elt F) fx = g) :
    iprop((aM.view.loc (c : Thread nD τ) ↦[aM.view.set]{fullShare} (aM.view.write (Elt F) f ((xV x k).view.read (Elt F) fx) Finset.univ)) ∗ P)
      ⊢ iprop(aP c g ∗ P) := by
  have e : aM.view.write (Elt F) f g Finset.univ = g := View.write_whole_univ _ _ _
  rw [hg, e]; exact Entails.rfl
theorem landR (k : Fin 16) (f : Blk F) (g : Fin 16 → Blk F) (P : sProp 𝕄) :
    iprop((bM.view.loc (c : Thread nD τ) ↦[bM.view.set]{fullShare} (bM.view.write (Elt F) f ((rV k).view.read (Elt F) (glue g)) Finset.univ)) ∗ P)
      ⊢ iprop(bP c (g k) ∗ P) := by
  have e : bM.view.write (Elt F) f (g k) Finset.univ = g k := View.write_whole_univ _ _ _
  rw [read_glue, e]; exact Entails.rfl
theorem landY (k : Fin 16) (f : Big F) (g : Fin 16 → Blk F) (P : sProp 𝕄) :
    iprop(((yV k).view.loc (c : Thread nD τ) ↦[(yV k).view.set]{fullShare} ((yV k).view.write (Elt F) f (sM.view.read (Elt F) (g k)) Finset.univ)) ∗ P)
      ⊢ iprop(yP c k (glue g) ∗ P) := by
  refine sep_mono_left (Entails.of_eq ?_)
  exact pointsTo_congr (write_glue_y k g f)

set_option maxHeartbeats 1000000 in
/-- The `r`-th sum. -/
theorem wp_addAt (r : Fin 16) (n : ℕ) (Kt : PUnit → sProp 𝕄) :
    iprop(Inv m κ ∗ levAts Lx lv ∗ argW m c ∗ scr c ∗ rP c (kk c r) (kept r) (inA m c) ∗ (∃ f, yP (F := F) c (kk c r) f)
        ∗ cpAt c r.val ∗ cpTok c r.val ∗ owing c n
        ∗ (iprop(argW m c ∗ scr c ∗ rP c (kk c r) (kept r) (inA m c) ∗ yP c (kk c r) (sumA m c) ∗ cpAt c (r.val + 1) ∗ owing c n) -∗ Kt ⟨⟩))
      ⊢ run c (addAt (plan c) r) Kt := by
  have p0 := (payload_cp m c 0 r 0).trans (copyP0 m c r)
  have p1 := (payload_cp m c 1 r 0).trans (copyP1 m c r)
  have p2 := (payload_cp m c 2 r 0).trans (copyP2 m c r)
  have r0 := (rest_cp m c 0 r).trans (copyP0 m c r)
  have r1 := (rest_cp m c 1 r).trans (copyP1 m c r)
  have r2 := (rest_cp m c 2 r).trans (copyP2 m c r)
  have ho : (xV (xc c) (kk c r)).view.read (Elt F) (argOf m c) = ownB m c (kk c r) := rfl
  have hs : Gen.k0_pay1 (F := F) (ownB m c (kk c r)) (inB m c (kk c r)) = sumB m c (kk c r) := rfl
  have hk : keepP m c r = argP m c (xc c) (kk c r) := rfl
  rw [addAt_eq]
  unfold addOps scr cpAt cpTok owing inA sumA at *
  rw [hk] at p0 r0
  simp only [run_bind, three]
  generalize kk c r = k at *
  generalize xc c = x at *
  iintro ⟨#HI, #Hlev, HX, ⟨⟨%fa, Ha⟩, ⟨%fb, Hb⟩, ⟨%fs, Hs⟩⟩, HR, ⟨%fy, Hy⟩, ⟨⟨Hp0, #Hr0⟩, ⟨Hp1, #Hr1⟩, ⟨Hp2, #Hr2⟩⟩, ⟨Ht0, Ht1, Ht2⟩, ⟨%W, HO⟩, Hk⟩
  ihave HXs := (arg_carve m c x k).1 $$ HX
  icases HXs with ⟨HX, HXr⟩
  unfold inXOp
  iapply (wp_copyG m c (cpS 0) (xV x k) aM _ _ _ N rfl (κ (cellC c 0)) r.val fullShare (argOf m c) fa _ (duties_cp m c 0 r)
    (amount_cp m c 0 _ 0) p0 (landX c x k fa _ (argOf m c) _ ho))
  isplitl [HX Ha Ht0]
  · isplitr; · iapply (inv_cp m κ c 0); iexact HI
    isplitl [HX]; · unfold argP; iexact HX
    isplitl [Ha]; · unfold aP; iexact Ha
    isplitl [Ht0]; · iexact Ht0
    iexact Hr0
  iintro Hc0
  unfold inROp
  iapply (wp_copyG m c (cpS 1) (rV k) bM _ _ _ N rfl (κ (cellC c 1)) r.val (kept r) (glue (inB m c)) fb _ (duties_cp m c 1 r)
    (amount_cp m c 1 _ 0) p1 (landR c k fb (inB m c) _))
  isplitl [HR Hb Ht1]
  · isplitr; · iapply (inv_cp m κ c 1); iexact HI
    isplitl [HR]; · unfold rP; iexact HR
    isplitl [Hb]; · unfold bP; iexact Hb
    isplitl [Ht1]; · iexact Ht1
    iexact Hr1
  iintro Hc1
  unfold inXWait
  iapply (wp_waitG m c (cpS 0) (xV x k) aM _ _ N rfl (κ (cellC c 0)) r.val (Ow c n) W (expect_cp m c 0 r) .ret)
  isplitl [Hc0 HO Hp0]
  · isplitr; · iapply (inv_cp m κ c 0); iexact HI
    isplitl [Hc0]; · iexact Hc0
    isplitl [HO]; · iexact HO
    isplitr; · iapply (mayWait_cp c 0 n); iexact Hlev
    iexact Hp0
  iintro ⟨HO, Hp0, #Hr0', Hpay⟩
  ihave H0 := (Entails.of_eq r0) $$ Hpay
  icases H0 with ⟨Ha, HX⟩
  iapply (run_ret c _)
  unfold inRWait
  iapply (wp_waitG m c (cpS 1) (rV k) bM _ _ N rfl (κ (cellC c 1)) r.val (Ow c n) _ (expect_cp m c 1 r) .ret)
  isplitl [Hc1 HO Hp1]
  · isplitr; · iapply (inv_cp m κ c 1); iexact HI
    isplitl [Hc1]; · iexact Hc1
    isplitl [HO]; · iexact HO
    isplitr; · iapply (mayWait_cp c 1 n); iexact Hlev
    iexact Hp1
  iintro ⟨HO, Hp1, #Hr1', Hpay⟩
  ihave H1 := (Entails.of_eq r1) $$ Hpay
  icases H1 with ⟨Hb, HR⟩
  iapply (run_ret c _)
  iapply (wp_sumP c _ _ fs _)
  isplitl [Ha]; · iexact Ha
  isplitl [Hb]; · iexact Hb
  isplitl [Hs]; · iexact Hs
  rw [hs]
  iintro ⟨Ha, Hb, Hs⟩
  unfold outOp
  iapply (wp_copyG m c (cpS 2) sM (yV k) _ _ _ N rfl (κ (cellC c 2)) r.val fullShare (sumB m c k) fy _ (duties_cp m c 2 r)
    (amount_cp m c 2 _ 0) p2 (landY c k fy (sumB m c) _))
  isplitl [Hs Hy Ht2]
  · isplitr; · iapply (inv_cp m κ c 2); iexact HI
    isplitl [Hs]; · unfold sP; iexact Hs
    isplitl [Hy]; · unfold yP; iexact Hy
    isplitl [Ht2]; · iexact Ht2
    iexact Hr2
  iintro Hc2
  unfold outWait
  iapply (wp_waitG m c (cpS 2) sM (yV k) _ _ N rfl (κ (cellC c 2)) r.val (Ow c n) _ (expect_cp m c 2 r) .ret)
  isplitl [Hc2 HO Hp2]
  · isplitr; · iapply (inv_cp m κ c 2); iexact HI
    isplitl [Hc2]; · iexact Hc2
    isplitl [HO]; · iexact HO
    isplitr; · iapply (mayWait_cp c 2 n); iexact Hlev
    iexact Hp2
  iintro ⟨HO, Hp2, #Hr2', Hpay⟩
  ihave H2 := (Entails.of_eq r2) $$ Hpay
  icases H2 with ⟨Hy, Hs⟩
  iapply (run_ret c _)
  iapply Hk
  isplitl [HX HXr]
  · iapply (arg_carve m c x k).2
    isplitl [HX]; · iexact HX
    iexact HXr
  isplitl [Ha Hb Hs]
  · isplitl [Ha]; · iexists _; iexact Ha
    isplitl [Hb]; · iexists _; iexact Hb
    iexists _; iexact Hs
  isplitl [HR]; · iexact HR
  isplitl [Hy]; · iexact Hy
  isplitl [Hp0 Hp1 Hp2]
  · isplitl [Hp0]; · isplitl [Hp0]; · iexact Hp0
                     iexact Hr0'
    isplitl [Hp1]; · isplitl [Hp1]; · iexact Hp1
                     iexact Hr1'
    isplitl [Hp2]; · iexact Hp2
    iexact Hr2'
  iexists _; iexact HO

end Cert.KernelIdeal.Ring

end
-- ==== Proof.Body.lean ====
/- The body's run: the state between its phases, one lemma for a phase, and the run from the coming in to the leaving. -/
module

public import proofs.«01_k».proof.Proof.Adds

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- One more conjunct. -/
theorem bigSep_more {s : Finset (Fin 16)} {i : Fin 16} {Φ : Fin 16 → sProp 𝕄} (h : i ∉ s) :
    bigSep (insert i s) Φ = iprop(Φ i ∗ bigSep s Φ) := bigSep_insert h

/-! ## The chunks not yet reached, and those passed -/

def pend (k : ℕ) : Finset (Fin 16) := Finset.univ.filter fun r => k ≤ r.val
def below (k : ℕ) : Finset (Fin 16) := Finset.univ.filter fun r => r.val < k
def mid (k : ℕ) : Finset (Fin 16) := Finset.univ.filter fun r => 1 ≤ r.val ∧ r.val < k

theorem pend_at (Φ : Fin 16 → sProp 𝕄) (k k' : ℕ) (r : Fin 16) (h : r.val = k) (h' : k' = k + 1) :
    bigSep (pend k) Φ = iprop(Φ r ∗ bigSep (pend k') Φ) := by
  subst h h'
  have e : pend r.val = insert r (pend (r.val + 1)) := by
    ext j; simp only [pend, Finset.mem_filter, Finset.mem_univ, true_and, Finset.mem_insert, Fin.ext_iff]; omega
  rw [e, bigSep_more (by simp [pend])]
theorem below_at (Φ : Fin 16 → sProp 𝕄) (k k' : ℕ) (r : Fin 16) (h : r.val = k) (h' : k' = k + 1) :
    bigSep (below k') Φ = iprop(Φ r ∗ bigSep (below k) Φ) := by
  subst h h'
  have e : below (r.val + 1) = insert r (below r.val) := by
    ext j; simp only [below, Finset.mem_filter, Finset.mem_univ, true_and, Finset.mem_insert, Fin.ext_iff]; omega
  rw [e, bigSep_more (by simp [below])]
theorem mid_at (Φ : Fin 16 → sProp 𝕄) (k k' : ℕ) (r : Fin 16) (h : r.val = k) (h' : k' = k + 1) (h1 : 1 ≤ k) :
    bigSep (mid k') Φ = iprop(Φ r ∗ bigSep (mid k) Φ) := by
  subst h h'
  have e : mid (r.val + 1) = insert r (mid r.val) := by
    ext j; simp only [mid, Finset.mem_filter, Finset.mem_univ, true_and, Finset.mem_insert, Fin.ext_iff]; omega
  rw [e, bigSep_more (by simp [mid])]

theorem pend_zero : pend 0 = Finset.univ := by decide
theorem below_zero : below 0 = ∅ := by decide
theorem below_all : below 16 = Finset.univ := by decide
theorem mid_one : mid 1 = ∅ := by decide
theorem mid_all : mid 16 = Finset.univ.erase 0 := by decide

/-! ## What a chunk has, by how far it has come -/

/-- A send not yet made. -/
def sendR (r : Fin 16) : sProp 𝕄 :=
  iprop(reached ER (cellS c r) 0 ∗ dutyTok ER (cellS c r) 0 0 ∗ dutyTok ER (cellR (dest c r) r) 0 0 ∗ atPos ER (cellS c r) 0 ∅ 0
    ∗ landP (F := F) (dest c r) r)
/-- A send made and not yet known to be over. -/
def goneC (r : Fin 16) : sProp 𝕄 := iprop(cred (tallyAt (cellS c r) () N) ∗ atPos ER (cellS c r) 0 ∅ 0)
/-- An arrival not yet awaited. -/
def recvR (r : Fin 16) : sProp 𝕄 :=
  iprop(cred (tallyAt (cellR c r) () N) ∗ atPos ER (cellR c r) 0 ∅ 0 ∗ (∃ f, yP (F := F) c (kk c r) f) ∗ cpTok c r.val)
/-- A chunk arrived and not yet added. -/
def half (r : Fin 16) : sProp 𝕄 :=
  iprop(atPos ER (cellR c r) 1 ∅ 0 ∗ (∃ f, yP (F := F) c (kk c r) f) ∗ cpTok c r.val ∗ rP c (kk c r) (kept r) (inA m c))
/-- A chunk added. -/
def doneR (r : Fin 16) : sProp 𝕄 :=
  iprop(atPos ER (cellR c r) 1 ∅ 0 ∗ yP c (kk c r) (sumA m c) ∗ rP c (kk c r) (kept r) (inA m c))

/-- An arrived chunk is the share that goes on and the share that stays. -/
theorem come_split (r : Fin 16) (hr : r.val ≠ 0) :
    comeP m c r ⊢ iprop(rP c (kk c r) fullShare.left (inA m c) ∗ rP c (kk c r) (kept r) (inA m c)) := by
  have e : kept r = fullShare.right := if_neg hr
  rw [e]
  unfold comeP rP
  exact (pointsTo_share (PosShare.mem_left_op_right fullShare)).1
/-- The first goes on twice. -/
theorem come_split_zero :
    comeP m c 0 ⊢ iprop(rP c (kk c 0) (sh 1) (inA m c) ∗ rP c (kk c 0) (sh 2) (inA m c) ∗ rP c (kk c 0) (kept 0) (inA m c)) := by
  have e1 : sh 1 = fullShare.left := if_neg (by decide)
  have e2 : sh 2 = fullShare.right.left := if_pos (by decide)
  have e0 : kept 0 = fullShare.right.right := if_pos (by decide)
  rw [e1, e2, e0]
  unfold comeP rP
  refine (pointsTo_share (PosShare.mem_left_op_right fullShare)).1.trans (sep_mono_right ?_)
  exact (pointsTo_share (PosShare.mem_left_op_right fullShare.right)).1

/-! ## A phase -/

/-- An arrival awaited. -/
theorem wp_take (a : Fin 16) (ha : a.val ≠ 0) (n : ℕ) (hn : a.val + 3 < n) (Kt : PUnit → sProp 𝕄) :
    iprop(Inv m κ ∗ levAts Lx lv ∗ recvR c a ∗ owing c n
        ∗ (iprop(half m c a ∗ rP c (kk c a) fullShare.left (inA m c) ∗ owing c n) -∗ Kt ⟨⟩))
      ⊢ run c (recvAt (plan c) a) Kt := by
  unfold recvR half
  iintro ⟨#HI, #Hlev, ⟨Hc, Hat, Hy, Ht⟩, HO, Hk⟩
  iapply (wp_recvAt m κ c a n hn)
  isplitr; · iexact HI
  isplitr; · iexact Hlev
  isplitl [Hc]; · iexact Hc
  isplitl [Hat]; · iexact Hat
  isplitl [HO]; · iexact HO
  iintro ⟨Hin, Hat, HO⟩
  ihave Hs := (come_split m c a ha) $$ Hin
  icases Hs with ⟨Hl, Hr⟩
  iapply Hk
  isplitl [Hat Hy Ht Hr]
  · isplitl [Hat]; · iexact Hat
    isplitl [Hy]; · iexact Hy
    isplitl [Ht]; · iexact Ht
    iexact Hr
  isplitl [Hl]; · iexact Hl
  iexact HO

/-- A send made. -/
theorem wp_pass (a b : Fin 16) (hb : pre b = a) (hb0 : b.val ≠ 0) (n n' : ℕ) (hn : n = b.val + 3) (hn' : n' = b.val + 4) (Kt : PUnit → sProp 𝕄) :
    iprop(Inv m κ ∗ sendR c b ∗ rP c (kk c a) (sh b) (inA m c) ∗ owing c n
        ∗ (iprop(goneC c b ∗ owing c n') -∗ Kt ⟨⟩))
      ⊢ run c (sendAt (plan c) b) Kt := by
  subst hb hn hn'
  unfold sendR goneC
  iintro ⟨#HI, ⟨#HrS, HtS, HtR, Hat, Hland⟩, Hl, HO, Hk⟩
  iapply (wp_sendAt m κ c b hb0)
  isplitr; · iexact HI
  isplitr; · iexact HrS
  isplitl [HtS]; · iexact HtS
  isplitl [HtR]; · iexact HtR
  isplitl [Hland]; · iexact Hland
  isplitl [Hl]; · iexact Hl
  isplitl [HO]; · iexact HO
  iintro ⟨Hc, HO⟩
  iapply Hk
  isplitl [Hc Hat]
  · isplitl [Hc]; · iexact Hc
    iexact Hat
  iexact HO

/-- A chunk added. -/
theorem wp_sum (a : Fin 16) (n k k' : ℕ) (hk : k = a.val) (hk' : k' = a.val + 1) (Kt : PUnit → sProp 𝕄) :
    iprop(Inv m κ ∗ levAts Lx lv ∗ half m c a ∗ argW m c ∗ scr c ∗ cpAt c k ∗ owing c n
        ∗ (iprop(doneR m c a ∗ argW m c ∗ scr c ∗ cpAt c k' ∗ owing c n) -∗ Kt ⟨⟩))
      ⊢ run c (addAt (plan c) a) Kt := by
  subst hk hk'
  unfold half doneR
  iintro ⟨#HI, #Hlev, ⟨Hat, Hy, Ht, Hr⟩, HX, Hs, Hcp, HO, Hk⟩
  iapply (wp_addAt m κ c a n)
  isplitr; · iexact HI
  isplitr; · iexact Hlev
  isplitl [HX]; · iexact HX
  isplitl [Hs]; · iexact Hs
  isplitl [Hr]; · iexact Hr
  isplitl [Hy]; · iexact Hy
  isplitl [Hcp]; · iexact Hcp
  isplitl [Ht]; · iexact Ht
  isplitl [HO]; · iexact HO
  iintro ⟨HX, Hs, Hr, Hy, Hcp, HO⟩
  iapply Hk
  isplitl [Hat Hy Hr]
  · isplitl [Hat]; · iexact Hat
    isplitl [Hy]; · iexact Hy
    iexact Hr
  isplitl [HX]; · iexact HX
  isplitl [Hs]; · iexact Hs
  isplitl [Hcp]; · iexact Hcp
  iexact HO

/-- The state before phase `s`. -/
def St (s : ℕ) : sProp 𝕄 :=
  iprop(bigSep (pend (3 + 2 * s)) (sendR c) ∗ bigSep (pend (1 + 2 * s)) (recvR c) ∗ bigSep (below (1 + 2 * s)) (doneR m c)
    ∗ bigSep (mid (3 + 2 * s)) (goneC c) ∗ argW m c ∗ scr c ∗ cpAt c (1 + 2 * s) ∗ owing c (6 + 2 * s))

/-- A phase. -/
theorem wp_phaseAt (s : Fin 6) (Kt : PUnit → sProp 𝕄) :
    iprop(Inv m κ ∗ levAts Lx lv ∗ St m c s.val ∗ (St m c (s.val + 1) -∗ Kt ⟨⟩)) ⊢ run c (phaseAt (plan c) s) Kt := by
  obtain ⟨s, hs⟩ := s
  have sh3 (b : Fin 16) (h : 3 ≤ b.val) : sh b = fullShare.left := if_neg (by omega)
  have e : phaseAt (F := F) (plan c) ⟨s, hs⟩ = (recvAt (plan c) (odd ⟨s, by omega⟩) >>= fun _ => sendAt (plan c) (odd ⟨s + 1, by omega⟩) >>= fun _ =>
    recvAt (plan c) (even ⟨s, by omega⟩) >>= fun _ => sendAt (plan c) (even ⟨s + 1, by omega⟩) >>= fun _ =>
    addAt (plan c) (odd ⟨s, by omega⟩) >>= fun _ => addAt (plan c) (even ⟨s, by omega⟩)) := rfl
  have vo : (odd ⟨s, by omega⟩).val = 1 + 2 * s := rfl
  have ve : (even ⟨s, by omega⟩).val = 2 + 2 * s := rfl
  have vo' : (odd ⟨s + 1, by omega⟩).val = 1 + 2 * (s + 1) := rfl
  have ve' : (even ⟨s + 1, by omega⟩).val = 2 + 2 * (s + 1) := rfl
  have po : pre (odd ⟨s + 1, by omega⟩) = odd ⟨s, by omega⟩ := Fin.ext (by show 1 + 2 * (s + 1) - 2 = 1 + 2 * s; omega)
  have pe : pre (even ⟨s + 1, by omega⟩) = even ⟨s, by omega⟩ := Fin.ext (by show 2 + 2 * (s + 1) - 2 = 2 + 2 * s; omega)
  rw [e]
  generalize odd ⟨s, by omega⟩ = a at *
  generalize even ⟨s, by omega⟩ = b at *
  generalize odd ⟨s + 1, by omega⟩ = a' at *
  generalize even ⟨s + 1, by omega⟩ = b' at *
  unfold St
  dsimp only
  rw [run_bind, run_bind, run_bind, run_bind, run_bind,
    pend_at (sendR c) (3 + 2 * s) (4 + 2 * s) a' (by omega) (by omega), pend_at (sendR c) (4 + 2 * s) (3 + 2 * (s + 1)) b' (by omega) (by omega),
    pend_at (recvR c) (1 + 2 * s) (2 + 2 * s) a (by omega) (by omega), pend_at (recvR c) (2 + 2 * s) (1 + 2 * (s + 1)) b (by omega) (by omega),
    below_at (doneR m c) (2 + 2 * s) (1 + 2 * (s + 1)) b (by omega) (by omega), below_at (doneR m c) (1 + 2 * s) (2 + 2 * s) a (by omega) (by omega),
    mid_at (goneC c) (4 + 2 * s) (3 + 2 * (s + 1)) b' (by omega) (by omega) (by omega), mid_at (goneC c) (3 + 2 * s) (4 + 2 * s) a' (by omega) (by omega) (by omega)]
  iintro ⟨#HI, #Hlev, ⟨⟨Ha', Hb', Hsend⟩, ⟨Ha, Hb, Hrecv⟩, Hdone, Hgone, HX, Hs, Hcp, HO⟩, Hk⟩
  iapply (wp_take m κ c a (by omega) (6 + 2 * s) (by omega))
  isplitr; · iexact HI
  isplitr; · iexact Hlev
  isplitl [Ha]; · iexact Ha
  isplitl [HO]; · iexact HO
  iintro ⟨Ha, Hl, HO⟩
  iapply (wp_pass m κ c a a' po (by omega) (6 + 2 * s) (7 + 2 * s) (by omega) (by omega))
  rw [sh3 a' (by omega)]
  isplitr; · iexact HI
  isplitl [Ha']; · iexact Ha'
  isplitl [Hl]; · iexact Hl
  isplitl [HO]; · iexact HO
  iintro ⟨Ha', HO⟩
  iapply (wp_take m κ c b (by omega) (7 + 2 * s) (by omega))
  isplitr; · iexact HI
  isplitr; · iexact Hlev
  isplitl [Hb]; · iexact Hb
  isplitl [HO]; · iexact HO
  iintro ⟨Hb, Hl, HO⟩
  iapply (wp_pass m κ c b b' pe (by omega) (7 + 2 * s) (6 + 2 * (s + 1)) (by omega) (by omega))
  rw [sh3 b' (by omega)]
  isplitr; · iexact HI
  isplitl [Hb']; · iexact Hb'
  isplitl [Hl]; · iexact Hl
  isplitl [HO]; · iexact HO
  iintro ⟨Hb', HO⟩
  iapply (wp_sum m κ c a (6 + 2 * (s + 1)) (1 + 2 * s) (2 + 2 * s) (by omega) (by omega))
  isplitr; · iexact HI
  isplitr; · iexact Hlev
  isplitl [Ha]; · iexact Ha
  isplitl [HX]; · iexact HX
  isplitl [Hs]; · iexact Hs
  isplitl [Hcp]; · iexact Hcp
  isplitl [HO]; · iexact HO
  iintro ⟨Ha, HX, Hs, Hcp, HO⟩
  iapply (wp_sum m κ c b (6 + 2 * (s + 1)) (2 + 2 * s) (1 + 2 * (s + 1)) (by omega) (by omega))
  isplitr; · iexact HI
  isplitr; · iexact Hlev
  isplitl [Hb]; · iexact Hb
  isplitl [HX]; · iexact HX
  isplitl [Hs]; · iexact Hs
  isplitl [Hcp]; · iexact Hcp
  isplitl [HO]; · iexact HO
  iintro ⟨Hb, HX, Hs, Hcp, HO⟩
  iapply Hk
  isplitl [Hsend]; · iexact Hsend
  isplitl [Hrecv]; · iexact Hrecv
  isplitl [Ha Hb Hdone]
  · isplitl [Hb]; · iexact Hb
    isplitl [Ha]; · iexact Ha
    iexact Hdone
  isplitl [Ha' Hb' Hgone]
  · isplitl [Hb']; · iexact Hb'
    isplitl [Ha']; · iexact Ha'
    iexact Hgone
  isplitl [HX]; · iexact HX
  isplitl [Hs]; · iexact Hs
  isplitl [Hcp]; · iexact Hcp
  iexact HO

/-! ## Before the phases, and after -/

/-- The opening: the first exchange, its chunk sent both ways and added. -/
theorem wp_openAt (Kt : PUnit → sProp 𝕄) :
    iprop(Inv m κ ∗ levAts Lx lv ∗ bigSep Finset.univ (sendR c) ∗ bigSep Finset.univ (recvR c) ∗ argW m c ∗ scr c ∗ cpAt c 0 ∗ owing c 3
        ∗ (iprop(atPos ER (cellS c 0) 1 ∅ 0 ∗ St m c 0) -∗ Kt ⟨⟩))
      ⊢ run c (openAt (plan c)) Kt := by
  have e : openAt (F := F) (plan c) = (swapAll (plan c) >>= fun _ => sendAt (plan c) 1 >>= fun _ => sendAt (plan c) 2 >>= fun _ => addAt (plan c) 0) := rfl
  unfold St
  rw [e, run_bind, run_bind, run_bind, ← pend_zero, pend_at (sendR c) 0 1 0 rfl rfl, pend_at (sendR c) 1 2 1 rfl rfl, pend_at (sendR c) 2 (3 + 2 * 0) 2 rfl rfl,
    pend_at (recvR c) 0 (1 + 2 * 0) 0 rfl rfl, below_at (doneR m c) 0 (1 + 2 * 0) 0 rfl rfl, below_zero,
    mid_at (goneC c) 2 (3 + 2 * 0) 2 rfl rfl (by decide), mid_at (goneC c) 1 2 1 rfl rfl (by decide), mid_one, bigSep_empty, bigSep_empty]
  iintro ⟨#HI, #Hlev, ⟨H0, H1, H2, Hsend⟩, ⟨HR, Hrecv⟩, HX, Hs, Hcp, HO, Hk⟩
  unfold sendR recvR
  icases H0 with ⟨#HrS, HtS, HtR, HaS, Hland⟩
  icases HR with ⟨HcR, HaR, Hy, Ht⟩
  ihave HXs := (arg_carve m c (xc c + 1) (pos c)).1 $$ HX
  icases HXs with ⟨Hg, HXr⟩
  iapply (wp_swapAll m κ c)
  isplitr; · iexact HI
  isplitr; · iexact Hlev
  isplitr; · iexact HrS
  isplitl [HtS]; · iexact HtS
  isplitl [HtR]; · iexact HtR
  isplitl [Hland]; · iexact Hland
  isplitl [Hg]; · iapply (show argP m c (xc c + 1) (pos c) ⊢ giveP m c from Entails.rfl); iexact Hg
  isplitl [HcR]; · iexact HcR
  isplitl [HaS]; · iexact HaS
  isplitl [HaR]; · iexact HaR
  isplitl [HO]; · iexact HO
  iintro ⟨Hg, Hin, HaS, HaR, HO⟩
  ihave Hin := (come_split_zero m c) $$ Hin
  icases Hin with ⟨Hl1, Hl2, Hl0⟩
  iapply (wp_pass m κ c 0 1 rfl (by decide) 4 5 rfl rfl)
  isplitr; · iexact HI
  isplitl [H1]; · unfold sendR; iexact H1
  isplitl [Hl1]; · iexact Hl1
  isplitl [HO]; · iexact HO
  iintro ⟨Hg1, HO⟩
  iapply (wp_pass m κ c 0 2 rfl (by decide) 5 6 rfl rfl)
  isplitr; · iexact HI
  isplitl [H2]; · unfold sendR; iexact H2
  isplitl [Hl2]; · iexact Hl2
  isplitl [HO]; · iexact HO
  iintro ⟨Hg2, HO⟩
  iapply (wp_sum m κ c 0 6 0 1 rfl rfl)
  isplitr; · iexact HI
  isplitr; · iexact Hlev
  isplitl [HaR Hy Ht Hl0]
  · unfold half
    isplitl [HaR]; · iexact HaR
    isplitl [Hy]; · iexact Hy
    isplitl [Ht]; · iexact Ht
    iexact Hl0
  isplitl [Hg HXr]
  · iapply (arg_carve m c (xc c + 1) (pos c)).2
    isplitl [Hg]; · iapply (show giveP m c ⊢ argP m c (xc c + 1) (pos c) from Entails.rfl); iexact Hg
    iexact HXr
  isplitl [Hs]; · iexact Hs
  isplitl [Hcp]; · iexact Hcp
  isplitl [HO]; · iexact HO
  iintro ⟨Hd, HX, Hs, Hcp, HO⟩
  iapply Hk
  isplitl [HaS]; · iexact HaS
  isplitl [Hsend]; · iexact Hsend
  isplitl [Hrecv]; · iexact Hrecv
  isplitl [Hd]
  · isplitl [Hd]; · iexact Hd
    iempintro
  isplitl [Hg1 Hg2]
  · isplitl [Hg2]; · iexact Hg2
    isplitl [Hg1]; · iexact Hg1
    iempintro
  isplitl [HX]; · iexact HX
  isplitl [Hs]; · iexact Hs
  isplitl [Hcp]; · iexact Hcp
  iexact HO

/-- The last arrivals: two of them go no further. -/
theorem wp_lastAt (Kt : PUnit → sProp 𝕄) :
    iprop(Inv m κ ∗ levAts Lx lv ∗ St m c 6
        ∗ (iprop(bigSep Finset.univ (doneR m c) ∗ bigSep (Finset.univ.erase 0) (goneC c)
            ∗ rP c (kk c 14) fullShare.left (inA m c) ∗ rP c (kk c 15) fullShare.left (inA m c)
            ∗ argW m c ∗ scr c ∗ cpAt c 16 ∗ owing c 19) -∗ Kt ⟨⟩))
      ⊢ run c (lastAt (plan c)) Kt := by
  have e : lastAt (F := F) (plan c) = (recvAt (plan c) 13 >>= fun _ => sendAt (plan c) 15 >>= fun _ => recvAt (plan c) 14 >>= fun _ =>
    addAt (plan c) 13 >>= fun _ => addAt (plan c) 14 >>= fun _ => recvAt (plan c) 15 >>= fun _ => addAt (plan c) 15) := rfl
  have e15 : fullShare.left = sh 15 := (if_neg (by decide)).symm
  unfold St
  rw [e, run_bind, run_bind, run_bind, run_bind, run_bind, run_bind, ← mid_all, ← below_all,
    pend_at (sendR c) (3 + 2 * 6) 16 15 rfl rfl, pend_at (recvR c) (1 + 2 * 6) 14 13 rfl rfl, pend_at (recvR c) 14 15 14 rfl rfl,
    pend_at (recvR c) 15 16 15 rfl rfl,
    below_at (doneR m c) 15 16 15 rfl rfl, below_at (doneR m c) 14 15 14 rfl rfl, below_at (doneR m c) (1 + 2 * 6) 14 13 rfl rfl,
    mid_at (goneC c) (3 + 2 * 6) 16 15 rfl rfl (by decide)]
  iintro ⟨#HI, #Hlev, ⟨⟨Hs15, -⟩, ⟨H13, H14, H15, -⟩, Hdone, Hgone, HX, Hs, Hcp, HO⟩, Hk⟩
  iapply (wp_take m κ c 13 (by decide) (6 + 2 * 6) (by decide))
  isplitr; · iexact HI
  isplitr; · iexact Hlev
  isplitl [H13]; · iexact H13
  isplitl [HO]; · iexact HO
  iintro ⟨H13, Hl, HO⟩
  iapply (wp_pass m κ c 13 15 rfl (by decide) (6 + 2 * 6) 19 rfl rfl)
  isplitr; · iexact HI
  isplitl [Hs15]; · iexact Hs15
  isplitl [Hl]; · rw [← e15]; iexact Hl
  isplitl [HO]; · iexact HO
  iintro ⟨Hg15, HO⟩
  iapply (wp_take m κ c 14 (by decide) 19 (by decide))
  isplitr; · iexact HI
  isplitr; · iexact Hlev
  isplitl [H14]; · iexact H14
  isplitl [HO]; · iexact HO
  iintro ⟨H14, Hl14, HO⟩
  iapply (wp_sum m κ c 13 19 (1 + 2 * 6) 14 rfl rfl)
  isplitr; · iexact HI
  isplitr; · iexact Hlev
  isplitl [H13]; · iexact H13
  isplitl [HX]; · iexact HX
  isplitl [Hs]; · iexact Hs
  isplitl [Hcp]; · iexact Hcp
  isplitl [HO]; · iexact HO
  iintro ⟨H13, HX, Hs, Hcp, HO⟩
  iapply (wp_sum m κ c 14 19 14 15 rfl rfl)
  isplitr; · iexact HI
  isplitr; · iexact Hlev
  isplitl [H14]; · iexact H14
  isplitl [HX]; · iexact HX
  isplitl [Hs]; · iexact Hs
  isplitl [Hcp]; · iexact Hcp
  isplitl [HO]; · iexact HO
  iintro ⟨H14, HX, Hs, Hcp, HO⟩
  iapply (wp_take m κ c 15 (by decide) 19 (by decide))
  isplitr; · iexact HI
  isplitr; · iexact Hlev
  isplitl [H15]; · iexact H15
  isplitl [HO]; · iexact HO
  iintro ⟨H15, Hl15, HO⟩
  iapply (wp_sum m κ c 15 19 15 16 rfl rfl)
  isplitr; · iexact HI
  isplitr; · iexact Hlev
  isplitl [H15]; · iexact H15
  isplitl [HX]; · iexact HX
  isplitl [Hs]; · iexact Hs
  isplitl [Hcp]; · iexact Hcp
  isplitl [HO]; · iexact HO
  iintro ⟨H15, HX, Hs, Hcp, HO⟩
  iapply Hk
  isplitl [H13 H14 H15 Hdone]
  · isplitl [H15]; · iexact H15
    isplitl [H14]; · iexact H14
    isplitl [H13]; · iexact H13
    iexact Hdone
  isplitl [Hg15 Hgone]
  · isplitl [Hg15]; · iexact Hg15
    iexact Hgone
  isplitl [Hl14]; · iexact Hl14
  isplitl [Hl15]; · iexact Hl15
  isplitl [HX]; · iexact HX
  isplitl [Hs]; · iexact Hs
  isplitl [Hcp]; · iexact Hcp
  iexact HO

/-- A send known to be over. -/
def goneR (r : Fin 16) : sProp 𝕄 := iprop(goneP m c r ∗ atPos ER (cellS c r) 1 ∅ 0)

/-- The ends of the sends, in whatever order. -/
theorem wp_goneAll (rs : List (Fin 16)) (h : rs.Nodup) (n : ℕ) (Kt : PUnit → sProp 𝕄) :
    iprop(Inv m κ ∗ levAts Lx lv ∗ bigSep rs.toFinset (goneC c) ∗ owing c n ∗ (iprop(bigSep rs.toFinset (goneR m c) ∗ owing c n) -∗ Kt ⟨⟩))
      ⊢ run c (goneAll (plan c) rs) Kt := by
  induction rs generalizing Kt with
  | nil =>
    rw [List.toFinset_nil, bigSep_empty, bigSep_empty]
    iintro ⟨-, -, -, HO, Hk⟩
    iapply (run_ret c Kt)
    iapply Hk
    isplitr; · iempintro
    iexact HO
  | cons r rs ih =>
    have hr : r ∉ rs.toFinset := fun hm => (List.nodup_cons.mp h).1 (List.mem_toFinset.mp hm)
    have e : goneAll (F := F) (plan c) (r :: rs) = (goneAt (plan c) r >>= fun _ => goneAll (plan c) rs) := rfl
    rw [List.toFinset_cons, bigSep_more hr, bigSep_more hr, e, run_bind]
    iintro ⟨#HI, #Hlev, ⟨H, Hrs⟩, HO, Hk⟩
    unfold goneC
    icases H with ⟨Hc, Hat⟩
    iapply (wp_goneAt m κ c r n)
    isplitr; · iexact HI
    isplitr; · iexact Hlev
    isplitl [Hc]; · iexact Hc
    isplitl [Hat]; · iexact Hat
    isplitl [HO]; · iexact HO
    iintro ⟨Hg, Hat, HO⟩
    iapply (ih (List.nodup_cons.mp h).2 Kt)
    isplitr; · iexact HI
    isplitr; · iexact Hlev
    isplitl [Hrs]; · unfold goneC; iexact Hrs
    isplitl [HO]; · iexact HO
    iintro ⟨Hrs, HO⟩
    iapply Hk
    isplitl [Hg Hat Hrs]
    · isplitl [Hg Hat]
      · unfold goneR
        isplitl [Hg]; · iexact Hg
        iexact Hat
      iexact Hrs
    iexact HO

/-! ## The shares come together -/

/-- All the shares of the received half that were lent, and those that stayed, are the whole of it. -/
theorem recv_whole :
    iprop(bigSep (Finset.univ.erase 0) (goneP m c) ∗ rP c (kk c 14) fullShare.left (inA m c) ∗ rP c (kk c 15) fullShare.left (inA m c)
        ∗ bigSep Finset.univ fun r => rP c (kk c r) (kept r) (inA m c))
      ⊢ ((c : Thread nD τ).loc main_v42_1 ↦{fullShare} inA m c : sProp 𝕄) := by
  let up : Fin 16 ↪ Fin 16 := ⟨fun r => r + 2, (by decide : ∀ a b : Fin 16, a + 2 = b + 2 → a = b)⟩
  have e0 : (Finset.univ.erase 0 : Finset (Fin 16)) = insert 1 (insert 2 ((mid 14).map up)) := by decide
  have e1 : (Finset.univ : Finset (Fin 16)) = insert 0 (insert 14 (insert 15 (mid 14))) := by decide
  have hg : bigSep ((mid 14).map up) (goneP m c) = bigSep (mid 14) fun r => rP c (kk c r) fullShare.left (inA m c) := by
    rw [bigSep_map]
    refine bigSep_congr fun r hr => ?_
    have h3 : 3 ≤ (up r).val ∧ pre (up r) = r := by
      have : ∀ r ∈ mid 14, 3 ≤ (up r).val ∧ pre (up r) = r := by decide
      exact this r hr
    rw [goneP_eq m c (up r) (by omega), h3.2, show sh (up r) = fullShare.left from if_neg (by omega)]
  have h1 : goneP m c 1 = rP c (kk c 0) (sh 1) (inA m c) := goneP_eq m c 1 (by decide)
  have h2 : goneP m c 2 = rP c (kk c 0) (sh 2) (inA m c) := goneP_eq m c 2 (by decide)
  have join (r : Fin 16) (hr : r.val ≠ 0) : iprop(rP c (kk c r) fullShare.left (inA m c) ∗ rP c (kk c r) (kept r) (inA m c))
      ⊢ rP c (kk c r) fullShare (inA m c) := by
    rw [show kept r = fullShare.right from if_neg hr]
    unfold rP
    exact (pointsTo_share (PosShare.mem_left_op_right fullShare)).2
  have join0 : iprop(rP c (kk c 0) (sh 1) (inA m c) ∗ rP c (kk c 0) (sh 2) (inA m c) ∗ rP c (kk c 0) (kept 0) (inA m c))
      ⊢ rP c (kk c 0) fullShare (inA m c) := by
    rw [show sh 1 = fullShare.left from if_neg (by decide), show sh 2 = fullShare.right.left from if_pos (by decide),
      show kept 0 = fullShare.right.right from if_pos (by decide)]
    unfold rP
    exact (sep_mono_right (pointsTo_share (PosShare.mem_left_op_right fullShare.right)).2).trans
      (pointsTo_share (PosShare.mem_left_op_right fullShare)).2
  have hjoin : bigSep (mid 14) (fun r => iprop(rP c (kk c r) fullShare.left (inA m c) ∗ rP c (kk c r) (kept r) (inA m c)))
      ⊢ bigSep (mid 14) fun r => rP c (kk c r) fullShare (inA m c) :=
    bigSep_mono fun r hr => join r (by have := (Finset.mem_filter.mp hr).2; omega)
  rw [recv_chunks, e0, bigSep_more (by decide), bigSep_more (by decide), hg, h1, h2, e1, bigSep_more (by decide), bigSep_more (by decide),
    bigSep_more (by decide), bigSep_more (by decide), bigSep_more (by decide), bigSep_more (by decide)]
  iintro ⟨⟨Hl1, Hl2, Hl⟩, Hl14, Hl15, Hk0, Hk14, Hk15, Hk⟩
  isplitl [Hl1 Hl2 Hk0]
  · iapply join0
    isplitl [Hl1]; · iexact Hl1
    isplitl [Hl2]; · iexact Hl2
    iexact Hk0
  isplitl [Hl14 Hk14]
  · iapply (join 14 (by decide))
    isplitl [Hl14]; · iexact Hl14
    iexact Hk14
  isplitl [Hl15 Hk15]
  · iapply (join 15 (by decide))
    isplitl [Hl15]; · iexact Hl15
    iexact Hk15
  iapply hjoin
  iapply (Entails.of_eq (bigSep_sep' (mid 14) (fun r => rP c (kk c r) fullShare.left (inA m c)) (fun r => rP c (kk c r) (kept r) (inA m c))).symm)
  isplitl [Hl]; · iexact Hl
  iexact Hk

end Cert.KernelIdeal.Ring

end
-- ==== Proof.Talk.lean ====
/- The whole talk, from the coming in to the leaving, and with its counters closed. -/
module

public import proofs.«01_k».proof.Proof.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## What a device holds -/

/-- The right to pay each duty the device pays. -/
def tokens : sProp 𝕄 :=
  iprop((bigSep Finset.univ fun d : Fin 3 => dutyTok ER (cellB (nb c d)) 0 (dual d))
    ∗ (bigSep Finset.univ fun d : Fin 3 => dutyTok ER (cellX (nb c d)) 0 (dual d))
    ∗ (bigSep Finset.univ fun r : Fin 16 => cpTok c r.val)
    ∗ (bigSep Finset.univ fun r : Fin 16 => dutyTok ER (cellS c r) 0 0)
    ∗ bigSep Finset.univ fun r : Fin 16 => dutyTok ER (cellR (dest c r) r) 0 0)
/-- What others owe the device's counters. -/
def credits : sProp 𝕄 :=
  iprop(cred (tallyAt (cellB c) () 3) ∗ cred (tallyAt (cellX c) () 3) ∗ bigSep Finset.univ fun r : Fin 16 => cred (tallyAt (cellR c r) () N))
/-- That the neighbours' counters of the coming in are open. -/
def barsOpen : sProp 𝕄 := bigSep Finset.univ fun d : Fin 3 => reached ER (cellB (nb c d)) 0

/-- A family over a device's own counters, by kind. -/
theorem own_split (Φ : Own → sProp 𝕄) : bigSep Finset.univ Φ = iprop(Φ (.inl ()) ∗ (bigSep Finset.univ fun i => Φ (.inr (.inl i)))
    ∗ (bigSep Finset.univ fun r => Φ (.inr (.inr (.inl r)))) ∗ bigSep Finset.univ fun r => Φ (.inr (.inr (.inr r)))) := by
  rw [bigSep_univ_sum, bigSep_univ_sum, bigSep_univ_sum, show (Finset.univ : Finset Unit) = {()} from rfl, bigSep_singleton]
  rfl

/-! ## The counters' ends -/

theorem ends (k : Own) (R : ℕ) (h : ∀ r, R ≤ r → (sched (F := F) m).duties ((c : Thread nD τ), ownSem k) r = ∅) :
    iprop(Inv m κ ∗ atPos ER ((c : Thread nD τ), ownSem k) R ∅ 0) ⊢ iprop(|={Set.univ}=> semVal ((c : Thread nD τ), ownSem k) 0) :=
  (sep_mono_left (inv_own m κ c k)).trans (Rounds.cell_close ER (sched m) (Set.mem_univ _) id h)

theorem close_bar : iprop(Inv m κ ∗ atPos ER (cellB c) 1 ∅ 0) ⊢ iprop(|={Set.univ}=> semVal (cellB c) 0) :=
  (sep_mono_left (inv_bar m κ c)).trans (Rounds.cell_close ER (sched m) (Set.mem_univ _) id
    (later m (cellB c) fun i h => by rw [kd_bar] at h; exact absurd h (by simp)))
theorem close_fin : iprop(Inv m κ ∗ atPos ER (cellX c) 1 ∅ 0) ⊢ iprop(|={Set.univ}=> semVal (cellX c) 0) :=
  ends m κ c (.inl ()) 1 (later m (cellX c) fun i h => by rw [kd_fin] at h; exact absurd h (by simp))
theorem close_snd : iprop(Inv m κ ∗ bigSep Finset.univ fun r => atPos ER (cellS c r) 1 ∅ 0)
    ⊢ iprop(|={Set.univ}=> bigSep Finset.univ fun r => semVal (cellS c r) 0) :=
  (bigSep_with_persistent fun r _ => ends m κ c (.inr (.inr (.inl r))) 1 (later m (cellS c r) fun i h => by rw [kd_snd] at h; exact absurd h (by simp))).trans
    (bigSep_fupd _ _)
theorem close_rcv : iprop(Inv m κ ∗ bigSep Finset.univ fun r => atPos ER (cellR c r) 1 ∅ 0)
    ⊢ iprop(|={Set.univ}=> bigSep Finset.univ fun r => semVal (cellR c r) 0) :=
  (bigSep_with_persistent fun r _ => ends m κ c (.inr (.inr (.inr r))) 1 (later m (cellR c r) fun i h => by rw [kd_rcv] at h; exact absurd h (by simp))).trans
    (bigSep_fupd _ _)
theorem close_cp : iprop(Inv m κ ∗ cpAt c 16) ⊢ iprop(|={Set.univ}=> bigSep Finset.univ fun i => semVal (cellC c i) 0) :=
  (bigSep_with_persistent fun i _ => by
    iintro ⟨HI, Hat, -⟩
    iapply (ends m κ c (.inr (.inl i)) 16 (later_cp m c i))
    isplitl [HI]; · iexact HI
    iexact Hat).trans (bigSep_fupd _ _)

/-! ## The talk -/

/-- What a run ends in may be reached by an update. -/
theorem run_end (p : Prog (TpuEff nD τ sig (Elt F) Λ₀ .tc) PUnit) (Kt : PUnit → sProp 𝕄) :
    run c p (fun a => iprop(|={Set.univ}=> Kt a)) ⊢ run c p Kt := wp_fupd _ _ _ p Kt

/-- A phase, between numbers. -/
theorem wp_phase (s : Fin 6) (a b : ℕ) (ha : a = s.val) (hb : b = s.val + 1) (Kt : PUnit → sProp 𝕄) :
    iprop(Inv m κ ∗ levAts Lx lv ∗ St m c a ∗ (St m c b -∗ Kt ⟨⟩)) ⊢ run c (phaseAt (plan c) s) Kt := by
  subst ha hb
  exact wp_phaseAt m κ c s Kt

/-- Six phases. -/
def phases (P : Plan) : Prog (TpuEff nD τ sig (Elt F) Λ₀ .tc) PUnit := do
  phaseAt P 0; phaseAt P 1; phaseAt P 2; phaseAt P 3; phaseAt P 4; phaseAt P 5

theorem wp_phases (Kt : PUnit → sProp 𝕄) :
    iprop(Inv m κ ∗ levAts Lx lv ∗ St m c 0 ∗ (St m c 6 -∗ Kt ⟨⟩)) ⊢ run c (phases (plan c)) Kt := by
  unfold phases
  rw [run_bind, run_bind, run_bind, run_bind, run_bind]
  iintro ⟨#HI, #Hlev, H, Hk⟩
  iapply (wp_phase m κ c 0 0 1 rfl rfl)
  isplitr; · iexact HI
  isplitr; · iexact Hlev
  isplitl [H]; · iexact H
  iintro H
  iapply (wp_phase m κ c 1 1 2 rfl rfl)
  isplitr; · iexact HI
  isplitr; · iexact Hlev
  isplitl [H]; · iexact H
  iintro H
  iapply (wp_phase m κ c 2 2 3 rfl rfl)
  isplitr; · iexact HI
  isplitr; · iexact Hlev
  isplitl [H]; · iexact H
  iintro H
  iapply (wp_phase m κ c 3 3 4 rfl rfl)
  isplitr; · iexact HI
  isplitr; · iexact Hlev
  isplitl [H]; · iexact H
  iintro H
  iapply (wp_phase m κ c 4 4 5 rfl rfl)
  isplitr; · iexact HI
  isplitr; · iexact Hlev
  isplitl [H]; · iexact H
  iintro H
  iapply (wp_phase m κ c 5 5 6 rfl rfl)
  isplitr; · iexact HI
  isplitr; · iexact Hlev
  isplitl [H]; · iexact H
  iexact Hk

/-- The order in which the sends are known to be over. -/
def goneOrder : List (Fin 16) := [1, 3, 5, 7, 9, 11, 13, 15, 2, 4, 6, 8, 10, 12, 14]
theorem goneOrder_set : goneOrder.toFinset = Finset.univ.erase 0 := by decide

theorem talk_eq (P : Plan) : talk (F := F) P = (meetAt P >>= fun _ => openAt P >>= fun _ => phases P >>= fun _ => lastAt P >>= fun _ =>
    goneAll P goneOrder >>= fun _ => partAt P) := rfl

/-- What the talk takes, beside the invariants. -/
def talkPre : sProp 𝕄 :=
  iprop(atPos ER (cellB c) 0 ∅ 0 ∗ (bigSep Finset.univ fun k : Own => iprop(atPos ER ((c : Thread nD τ), ownSem k) 0 ∅ 0 ∗ reached ER ((c : Thread nD τ), ownSem k) 0))
    ∗ barsOpen c ∗ tokens c ∗ credits c ∗ argW m c ∗ (∃ f, (c : Thread nD τ).loc main_v42_1 ↦{fullShare} f)
    ∗ (∃ f, (c : Thread nD τ).loc main_v42_0 ↦{fullShare} f) ∗ scr c ∗ owing c 0)
/-- What it leaves: the received half in its place, the result its sum with the device's own, and every counter at zero. -/
def talkPost : sProp 𝕄 :=
  iprop(semVal (cellB c) 0 ∗ (bigSep Finset.univ fun k : Own => semVal ((c : Thread nD τ), ownSem k) 0)
    ∗ argW m c ∗ ((c : Thread nD τ).loc main_v42_1 ↦{fullShare} inA m c) ∗ ((c : Thread nD τ).loc main_v42_0 ↦{fullShare} sumA m c) ∗ scr c ∗ owing c 22)

/-- The places of the chunks, each with what says its counter is open. -/
theorem lands (f : Big F) : iprop(((c : Thread nD τ).loc main_v42_1 ↦{fullShare} f) ∗ bigSep Finset.univ fun r : Fin 16 => reached ER (cellR c r) 0)
    ⊢ bigSep Finset.univ fun r => landP (F := F) c r := by
  have h (r : Fin 16) : iprop(rP c (kk c r) fullShare f ∗ reached ER (cellR c r) 0) ⊢ landP (F := F) c r := by
    unfold landP
    iintro ⟨H, Hr⟩
    isplitl [H]; · iexists f; iexact H
    iexact Hr
  rw [recv_chunks, ← bigSep_sep']
  exact bigSep_mono fun r _ => h r
/-- The result's places, at contents not chosen. -/
theorem outs (f : Big F) : ((c : Thread nD τ).loc main_v42_0 ↦{fullShare} f : sProp 𝕄) ⊢ bigSep Finset.univ fun r => iprop(∃ f, yP (F := F) c (kk c r) f) := by
  have h (r : Fin 16) : yP c (kk c r) f ⊢ iprop(∃ f, yP (F := F) c (kk c r) f) := by
    iintro H; iexists f; iexact H
  rw [out_chunks]
  exact bigSep_mono fun r _ => h r

theorem sends_mk : iprop((bigSep Finset.univ fun r => reached ER (cellS c r) 0) ∗ (bigSep Finset.univ fun r => dutyTok ER (cellS c r) 0 0)
      ∗ (bigSep Finset.univ fun r => dutyTok ER (cellR (dest c r) r) 0 0) ∗ (bigSep Finset.univ fun r => atPos ER (cellS c r) 0 ∅ 0)
      ∗ bigSep Finset.univ fun r => landP (F := F) (dest c r) r)
    ⊢ bigSep Finset.univ (sendR (F := F) c) := by
  rw [← bigSep_sep', ← bigSep_sep', ← bigSep_sep', ← bigSep_sep']
  exact Entails.rfl
theorem recvs_mk : iprop((bigSep Finset.univ fun r => cred (tallyAt (cellR c r) () N)) ∗ (bigSep Finset.univ fun r => atPos ER (cellR c r) 0 ∅ 0)
      ∗ (bigSep Finset.univ fun r => iprop(∃ f, yP (F := F) c (kk c r) f)) ∗ bigSep Finset.univ fun r : Fin 16 => cpTok c r.val)
    ⊢ bigSep Finset.univ (recvR (F := F) c) := by
  rw [← bigSep_sep', ← bigSep_sep', ← bigSep_sep']
  exact Entails.rfl
theorem dones : bigSep Finset.univ (doneR m c) ⊢ iprop((bigSep Finset.univ fun r => atPos ER (cellR c r) 1 ∅ 0)
      ∗ ((c : Thread nD τ).loc main_v42_0 ↦{fullShare} sumA m c) ∗ bigSep Finset.univ fun r => rP c (kk c r) (kept r) (inA m c)) := by
  rw [out_chunks, ← bigSep_sep', ← bigSep_sep']
  exact Entails.rfl
theorem gones : bigSep (Finset.univ.erase 0) (goneR m c) ⊢ iprop(bigSep (Finset.univ.erase 0) (goneP m c) ∗ bigSep (Finset.univ.erase 0) fun r => atPos ER (cellS c r) 1 ∅ 0) := by
  rw [← bigSep_sep']
  exact Entails.rfl

/-- The talk. -/
theorem wp_talk (Kt : PUnit → sProp 𝕄) :
    iprop(Inv m κ ∗ levAts Lx lv ∗ talkPre m c ∗ (talkPost m c -∗ Kt ⟨⟩)) ⊢ run c (talk (plan c)) Kt := by
  rw [talk_eq, run_bind, run_bind, run_bind, run_bind, run_bind]
  unfold talkPre talkPost tokens credits barsOpen
  rw [own_split, own_split, bigSep_sep', bigSep_sep', bigSep_sep']
  iintro ⟨#HI, #Hlev, ⟨HaB, ⟨⟨HaX, #HrX⟩, ⟨HaC, #HrC⟩, ⟨HaS, #HrS⟩, ⟨HaR, #HrR⟩⟩, #HrB, ⟨HtB, HtX, HtC, HtS, HtR⟩, ⟨HcB, HcX, HcR⟩, HX, ⟨%f1, Hrecv⟩,
    ⟨%f0, Hout⟩, Hscr, HO⟩, Hk⟩
  iapply (wp_meetAt m κ c)
  isplitr; · iexact HI
  isplitr; · iexact Hlev
  isplitl [HcB]; · iexact HcB
  isplitl [HaB]; · iexact HaB
  isplitr; · iexact HrX
  isplitl [HtB]; · iexact HtB
  isplitr; · iexact HrB
  isplitl [Hrecv]
  · iapply (lands c f1)
    isplitl [Hrecv]; · iexact Hrecv
    iexact HrR
  isplitl [HO]; · iexact HO
  iintro ⟨HaB, Hland, #HrXn, HO⟩
  iapply (wp_openAt m κ c)
  isplitr; · iexact HI
  isplitr; · iexact Hlev
  isplitl [HtS HtR HaS Hland]
  · iapply (sends_mk (F := F) c)
    isplitr; · iexact HrS
    isplitl [HtS]; · iexact HtS
    isplitl [HtR]; · iexact HtR
    isplitl [HaS]; · iexact HaS
    iexact Hland
  isplitl [HcR HaR Hout HtC]
  · iapply (recvs_mk (F := F) c)
    isplitl [HcR]; · iexact HcR
    isplitl [HaR]; · iexact HaR
    isplitl [Hout]; · iapply (outs c f0); iexact Hout
    iexact HtC
  isplitl [HX]; · iexact HX
  isplitl [Hscr]; · iexact Hscr
  isplitl [HaC]
  · unfold cpAt
    iapply (Entails.of_eq (bigSep_sep' Finset.univ (fun i => atPos ER (cellC c i) 0 ∅ 0) (fun i => reached ER (cellC c i) 0)).symm)
    isplitl [HaC]; · iexact HaC
    iexact HrC
  isplitl [HO]; · iexact HO
  iintro ⟨HaS0, H⟩
  iapply (wp_phases m κ c)
  isplitr; · iexact HI
  isplitr; · iexact Hlev
  isplitl [H]; · iexact H
  iintro H
  iapply (wp_lastAt m κ c)
  isplitr; · iexact HI
  isplitr; · iexact Hlev
  isplitl [H]; · iexact H
  iintro ⟨Hd, Hg, H14, H15, HX, Hscr, Hcp, HO⟩
  iapply (wp_goneAll m κ c goneOrder (by decide) 19)
  rw [goneOrder_set]
  isplitr; · iexact HI
  isplitr; · iexact Hlev
  isplitl [Hg]; · iexact Hg
  isplitl [HO]; · iexact HO
  iintro ⟨Hg, HO⟩
  ihave Hg' := (gones m c) $$ Hg
  icases Hg' with ⟨Hg, HaS⟩
  ihave Hd' := (dones m c) $$ Hd
  icases Hd' with ⟨HaR, Hout, Hkept⟩
  iapply (run_end c (partAt (plan c)) Kt)
  iapply (wp_partAt m κ c)
  isplitr; · iexact HI
  isplitl [HcX]; · iexact HcX
  isplitl [HaX]; · iexact HaX
  isplitl [HtX]; · iexact HtX
  isplitr; · iexact HrXn
  isplitl [HO]; · iexact HO
  iintro ⟨HaX, HO⟩
  ihave HaS' := (show iprop(atPos ER (cellS c 0) 1 ∅ 0 ∗ bigSep (Finset.univ.erase 0) fun r => atPos ER (cellS c r) 1 ∅ 0)
      ⊢ (bigSep Finset.univ fun r => atPos ER (cellS c r) 1 ∅ 0 : sProp 𝕄) from
    Entails.of_eq (bigSep_univ_at (fun r => atPos ER (cellS c r) 1 ∅ 0) 0).symm) $$ [HaS0 HaS]
  · isplitl [HaS0]; · iexact HaS0
    iexact HaS
  imod (close_bar m κ c) $$ [HaB] with HB
  · isplitr; · iexact HI
    iexact HaB
  imod (close_fin m κ c) $$ [HaX] with HXv
  · isplitr; · iexact HI
    iexact HaX
  imod (close_cp m κ c) $$ [Hcp] with HC
  · isplitr; · iexact HI
    iexact Hcp
  imod (close_snd m κ c) $$ [HaS'] with HS
  · isplitr; · iexact HI
    iexact HaS'
  imod (close_rcv m κ c) $$ [HaR] with HR
  · isplitr; · iexact HI
    iexact HaR
  imodintro
  iapply Hk
  isplitl [HB]; · iexact HB
  isplitl [HXv HC HS HR]
  · isplitl [HXv]; · iexact HXv
    isplitl [HC]; · iexact HC
    isplitl [HS]; · iexact HS
    iexact HR
  isplitl [HX]; · iexact HX
  isplitl [Hg H14 H15 Hkept]
  · iapply (recv_whole m c)
    isplitl [Hg]; · iexact Hg
    isplitl [H14]; · iexact H14
    isplitl [H15]; · iexact H15
    iexact Hkept
  isplitl [Hout]; · iexact Hout
  isplitl [Hscr]; · iexact Hscr
  iexact HO

end Cert.KernelIdeal.Ring

end
-- ==== Proof.Region.lean ====
/- The kernel's region: the body's run with its table of words, the data its pipeline is proved with, and the record of its
   entry and its exit. -/
module

public import proofs.«01_k».proof.Proof.Talk
public import proofs.«01_k».proof.Proof.Gen.KernelIdeal.Points
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## The table's words -/

/-- The staged table. -/
def tabP : sProp 𝕄 := (c : Thread nD τ).loc cc0_stg0_0 ↦{fullShare} (tab c : Buf (Elt F) ((c : Thread nD τ).loc cc0_stg0_0))

/-- A word of the table is read. -/
theorem wp_word (o : Fin 1 → ℕ) (h : ∀ a, o a + S1.size a ≤ S5.size a) (i : Fin 5) (ho : o 0 = i.val) (Q : Elt F .i32 → sProp 𝕄) :
    iprop(tabP (F := F) c ∗ (tabP (F := F) c -∗ Q (tw c i)))
      ⊢ wp frame (wpE (defs₀ (F := F)) 𝒱₀ (c : Thread nD τ) none) Set.univ (smemLoad tM (Rect.unit (s := S5) o S1.size h) numel1_S1 rfl) Q := by
  have hv (x : (Rect.unit (s := S5) o S1.size h).shape.Idx) : (tM.access (Rect.unit (s := S5) o S1.size h)).read (Elt F) (tab c : Buf (Elt F) ((c : Thread nD τ).loc cc0_stg0_0)) x = tw c i := by
    rw [← tab_at]
    show tab c _ = tab c _
    have e : ((tM.access (Rect.unit (s := S5) o S1.size h)).emb x (0 : Fin 1)).val = o 0 + (x (0 : Fin 1)).val := by
      show o 0 + 1 * (x (0 : Fin 1)).val = _
      omega
    have hx : (x (0 : Fin 1)).val < 1 := (x (0 : Fin 1)).isLt
    refine congrArg (tab c) (funext fun a => ?_)
    match a with
    | ⟨0, _⟩ =>
      refine Fin.ext (e.trans ?_)
      show _ = i.val
      omega
  unfold smemLoad tabP
  iintro ⟨H, Hk⟩
  iapply (wp_smemLoadElt 𝒱₀ (c : Thread nD τ) none Set.univ (m := tM) (r := Rect.unit (s := S5) o S1.size h) (S := Finset.univ) (Finset.subset_univ _)) $$ H
  iintro H
  rw [hv, wp_ret]
  imodintro
  iapply Hk
  iexact H

/-- The body: its words read and checked, it is the talk. -/
theorem wp_body (Kt : PUnit → sProp 𝕄) :
    iprop(Inv m κ ∗ levAts Lx lv ∗ tabP (F := F) c ∗ talkPre m c ∗ (iprop(tabP (F := F) c ∗ talkPost m c) -∗ Kt ⟨⟩)) ⊢ run c bodyW Kt := by
  show _ ⊢ wp _ _ _ _ _
  unfold bodyW
  simp only [Prog.lift, Prog.bind_op, Prog.bind_ret, wp_deviceId]
  iintro ⟨#HI, #Hlev, Ht, Hpre, Hk⟩
  rw [wp_bind]
  iapply (wp_word c ![0] inb_S5_S1_0 0 rfl)
  isplitl [Ht]; · iexact Ht
  iintro Ht
  rw [wp_assume_of _ _ _ _ (d := k0_chk3.dec c (tw c 0)) (chk3 c), wp_bind]
  iapply (wp_word c ![1] inb_S5_S1_1 1 rfl)
  isplitl [Ht]; · iexact Ht
  iintro Ht
  rw [wp_bind]
  iapply (wp_word c ![2] inb_S5_S1_2 2 rfl)
  isplitl [Ht]; · iexact Ht
  iintro Ht
  rw [wp_assume_of _ _ _ _ (d := k0_chk1.dec c (tw c 1) (tw c 2)) (chk1 c), wp_bind]
  iapply (wp_word c ![3] inb_S5_S1_3 3 rfl)
  isplitl [Ht]; · iexact Ht
  iintro Ht
  rw [wp_bind]
  iapply (wp_word c ![4] inb_S5_S1_4 4 rfl)
  isplitl [Ht]; · iexact Ht
  iintro Ht
  rw [wp_assume_of _ _ _ _ (d := k0_chk2.dec c (tw c 3) (tw c 4)) (chk2 c), rawPlan_eq]
  iapply (wp_talk m κ c Kt)
  isplitr; · iexact HI
  isplitr; · iexact Hlev
  isplitl [Hpre]; · iexact Hpre
  iintro Hpost
  iapply Hk
  isplitl [Ht]; · iexact Ht
  iexact Hpost

/-! ## The pipeline's data -/

/-- What the launch leaves with a device for the region. -/
def ghost : sProp 𝕄 :=
  iprop(∃ κ, Inv m κ ∗ atPos ER (cellB c) 0 ∅ 0 ∗ (bigSep Finset.univ fun k : Own => openTok ER ((c : Thread nD τ), ownSem k))
    ∗ barsOpen c ∗ tokens c ∗ credits c)
/-- The same with the device's own counters open. -/
def opened : sProp 𝕄 :=
  iprop((∃ κ, Inv m κ ∗ atPos ER (cellB c) 0 ∅ 0
      ∗ (bigSep Finset.univ fun k : Own => iprop(atPos ER ((c : Thread nD τ), ownSem k) 0 ∅ 0 ∗ reached ER ((c : Thread nD τ), ownSem k) 0))
      ∗ barsOpen c ∗ tokens c ∗ credits c) ∗ levAts Lx lv)

/-- The region's invariant before its one point, and after. -/
def atStart : sProp 𝕄 :=
  iprop(opened m c ∗ argW m c ∗ (∃ f, (c : Thread nD τ).loc main_v42_1 ↦{fullShare} f) ∗ (∃ f, (c : Thread nD τ).loc main_v42_0 ↦{fullShare} f)
    ∗ scr c ∗ ∃ r, prngReg c r)
def atEnd : sProp 𝕄 :=
  iprop(semVal (cellB c) 0 ∗ Pipeline.ownSems0 ownSem c ∗ argW m c ∗ ((c : Thread nD τ).loc main_v42_1 ↦{fullShare} inA m c)
    ∗ ((c : Thread nD τ).loc main_v42_0 ↦{fullShare} sumA m c) ∗ scr c ∗ ∃ r, prngReg c r)

def dat : Dat τ (Elt F) Unit ℕ UU ℕ cfg0 c where
  A w := match w with
    | ⟨0, _⟩ => (tab c : Buf (Elt F) ((c : Thread nD τ).loc main_v41))
    | ⟨_ + 1, h⟩ => absurd h (Nat.not_lt.2 (Nat.le_add_left _ _))
  after w _ := match w with
    | ⟨0, _⟩ => (tab c : Buf (Elt F) ((c : Thread nD τ).loc cc0_stg0_0))
    | ⟨_ + 1, h⟩ => absurd h (Nat.not_lt.2 (Nat.le_add_left _ _))
  Φ t := if t.val = 0 then atStart m c else atEnd m c
  q _ := fullShare
  owed t := if t.val = 0 then Ow c 0 else 0

theorem phi_first : (dat m c).Φ Gen.t0_0.castSucc = atStart m c := rfl
theorem phi_last : (dat m c).Φ Gen.t0_0.succ = atEnd m c := rfl
theorem owed_first : (dat m c).owed Gen.t0_0.castSucc = Ow c 0 := rfl
theorem owed_last : (dat m c).owed Gen.t0_0.succ = 0 := rfl

/-- What the staging buffer holds when the body begins. -/
theorem before_tab (d) : (dat m c).before (0 : Fin 1) Gen.t0_0 d = (tab c : Buf (Elt F) ((c : Thread nD τ).loc cc0_stg0_0)) := by
  unfold Dat.before
  rw [if_pos (Gen.fetch0_0 Gen.t0_0)]
  have e : ∀ i : S5.Idx, (win0_0.blk (0 : Fin 1)).view.emb i = i := by decide +kernel
  funext i
  show tab c ((win0_0.blk (0 : Fin 1)).view.emb i) = tab c i
  rw [e]

theorem stage_tab : (owns (c : Thread nD τ) (Memref.whole cc0_stg0_0) fullShare (tab c : Buf (Elt F) ((c : Thread nD τ).loc cc0_stg0_0)) : sProp 𝕄) = tabP c :=
  owns_whole (c : Thread nD τ) cc0_stg0_0 fullShare _

theorem owesAt_intro (t : Fin (cfg0.N + 1)) (O : CellTallies nD τ sig Unit) (h0 : (dat m c).owed t = O) :
    iprop(∃ W, owes (c : Thread nD τ) O W) ⊢ ((dat m c).owesAt () t : sProp 𝕄) := by
  unfold Dat.owesAt Pipeline.owesWithin Dat.bound
  rw [h0, show (dat m c).recorded t = Set.univ from rfl]
  iintro ⟨%W, HO⟩
  iexists W
  isplitr; · ipureintro; exact fun _ _ => Or.inl trivial
  iexact HO
theorem owesAt_elim (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩
  iexists W
  iexact HO

/-- What the body is called with at the one point makes its run; what its run ends in is what the pipeline takes back. -/
theorem run_body :
    iprop(atStart m c ∗ (dat m c).owesAt () Gen.t0_0.castSucc ∗ tabP (F := F) c)
      ⊢ run c bodyW fun _ => iprop(atEnd m c ∗ (dat m c).owesAt () Gen.t0_0.succ ∗ tabP (F := F) c) := by
  unfold atStart opened atEnd Pipeline.ownSems0
  iintro ⟨⟨⟨⟨%κ, #HI, HaB, Hown, HrB, Ht, Hc⟩, #Hlev⟩, HX, Hrecv, Hout, Hscr, Hp⟩, HO, Htab⟩
  iapply (wp_body m κ c)
  isplitr; · iexact HI
  isplitr; · iexact Hlev
  isplitl [Htab]; · iexact Htab
  isplitl [HaB Hown HrB Ht Hc HX Hrecv Hout Hscr HO]
  · unfold talkPre
    isplitl [HaB]; · iexact HaB
    isplitl [Hown]; · iexact Hown
    isplitl [HrB]; · iexact HrB
    isplitl [Ht]; · iexact Ht
    isplitl [Hc]; · iexact Hc
    isplitl [HX]; · iexact HX
    isplitl [Hrecv]; · iexact Hrecv
    isplitl [Hout]; · iexact Hout
    isplitl [Hscr]; · iexact Hscr
    unfold owing
    iapply (owesAt_elim m c _ _ (owed_first m c)); iexact HO
  unfold talkPost
  iintro ⟨Htab, HB, Hown, HX, Hrecv, Hout, Hscr, HO⟩
  isplitl [HB Hown HX Hrecv Hout Hscr Hp]
  · isplitl [HB]; · iexact HB
    isplitl [Hown]; · iexact Hown
    isplitl [HX]; · iexact HX
    isplitl [Hrecv]; · iexact Hrecv
    isplitl [Hout]; · iexact Hout
    isplitl [Hscr]; · iexact Hscr
    iexact Hp
  isplitl [HO]
  · iapply (owesAt_intro m c _ _ (owed_last m c))
    unfold owing
    rw [Ow_end]
    iexact HO
  iexact Htab

set_option maxRecDepth 65536 in
/-- The body's obligation to the pipeline. -/
theorem body_ob : BodyObligation (dat m c) defs₀ 𝒱₀ () Set.univ := fun t => by
  obtain rfl := Gen.fin_N0 t
  have hb : (defs₀ (F := F)) .tc cfg0.body (cfg0.bodyArgs Gen.t0_0 (cfg0.slots Gen.t0_0)) = bodyW := body_eq
  rw [Gen.bigSep_W0, Gen.bigSep_W0, hb, phi_first, phi_last]
  have h0 : iprop(∃ d, owns (c : Thread nD τ) ((cfg0.win (0 : Fin 1)).stage (cfg0.slots Gen.t0_0 (0 : Fin 1))) fullShare ((dat m c).before (0 : Fin 1) Gen.t0_0 d)) ⊢ tabP (F := F) c := by
    iintro ⟨%d, H⟩
    rw [before_tab]
    iapply (Entails.of_eq (stage_tab (F := F) c))
    iexact H
  have h1 : tabP (F := F) c ⊢ owns (c : Thread nD τ) ((cfg0.win (0 : Fin 1)).stage (cfg0.slots Gen.t0_0 (0 : Fin 1))) fullShare ((dat m c).after (0 : Fin 1) Gen.t0_0) :=
    Entails.of_eq (stage_tab (F := F) c).symm
  refine (sep_mono_right (sep_mono_right h0)).trans ((run_body m c).trans ?_)
  exact (wp_mono _ _ _ fun _ => sep_mono_right (sep_mono_right h1))

end Cert.KernelIdeal.Ring

end
-- ==== Proof.Record.lean ====
/- The record of the region: what it is entered from and what it leaves. -/
module

public import proofs.«01_k».proof.Proof.Region
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-! ## The buffers -/

/-- The three arrays the body reads and writes outside its table, and all unscoped buffers but the table. -/
def bodyRefs : Finset (DevRef τ sig) := {Proc.devRef .tc main_arg0, Proc.devRef .tc main_v42_1, Proc.devRef .tc main_v42_0}
def tabRefs : Finset (DevRef τ sig) := Pipeline.arrRefs (τ := τ) spec0
def restRefs : Finset (DevRef τ sig) := Pipeline.ucRefs τ sig \ tabRefs

theorem uc_mem (r : Ref sig .tc) (h : ¬(Proc.devRef .tc r : DevRef τ sig).isScoped = true) : (Proc.devRef .tc r : DevRef τ sig) ∈ Pipeline.ucRefs τ sig :=
  Finset.mem_filter.mpr ⟨StableHlo.devRef_mem_tcRefs r, h⟩
theorem tabRefs_eq : tabRefs = {Proc.devRef .tc main_v41} := by decide +kernel
theorem tab_sub : tabRefs ⊆ Pipeline.ucRefs τ sig := by
  rw [tabRefs_eq]
  exact Finset.singleton_subset_iff.mpr (uc_mem main_v41 (by decide))
theorem body_sub : bodyRefs ⊆ restRefs := by
  intro b hb
  have hb' : b = Proc.devRef .tc main_arg0 ∨ b = Proc.devRef .tc main_v42_1 ∨ b = Proc.devRef .tc main_v42_0 := by
    simpa [bodyRefs] using hb
  unfold restRefs
  rw [tabRefs_eq, Finset.mem_sdiff, Finset.mem_singleton]
  rcases hb' with rfl | rfl | rfl
  · exact ⟨uc_mem main_arg0 (by decide), by decide⟩
  · exact ⟨uc_mem main_v42_1 (by decide), by decide⟩
  · exact ⟨uc_mem main_v42_0 (by decide), by decide⟩

/-- What the buffers hold before the region, and after. -/
def Wpre (c : Dev nD) : Valuation τ sig (Elt F) := Gen.V1 m c
def Wend (c : Dev nD) : Valuation τ sig (Elt F) :=
  Function.update (Function.update (Wpre m c) (Proc.devRef .tc main_v42_0) (sumA m c)) (Proc.devRef .tc main_v42_1) (inA m c)

theorem Wpre_arg (c : Dev nD) : Wpre m c (Proc.devRef .tc main_arg0) = argOf m c := Gen.V1_of m c main_arg0 (by decide)
theorem Wend_in (c : Dev nD) : Wend m c (Proc.devRef .tc main_v42_1) = inA m c := Function.update_self _ _ _
theorem Wend_out (c : Dev nD) : Wend m c (Proc.devRef .tc main_v42_0) = sumA m c :=
  (Function.update_of_ne (by decide) _ _).trans (Function.update_self _ _ _)
theorem Wend_ne (c : Dev nD) (b : DevRef τ sig) (h1 : b ≠ Proc.devRef .tc main_v42_1) (h0 : b ≠ Proc.devRef .tc main_v42_0) : Wend m c b = Wpre m c b :=
  (Function.update_of_ne h1 _ _).trans (Function.update_of_ne h0 _ _)
theorem Wend_arg (c : Dev nD) : Wend m c (Proc.devRef .tc main_arg0) = argOf m c :=
  (Wend_ne m c _ (by decide) (by decide)).trans (Wpre_arg m c)

theorem held_body (c : Dev nD) (W : Valuation τ sig (Elt F)) :
    (StableHlo.held (c.tc : Thread nD τ) bodyRefs W : sProp 𝕄)
      = iprop(((c : Thread nD τ).loc main_arg0 ↦{fullShare} W (Proc.devRef .tc main_arg0)) ∗ ((c : Thread nD τ).loc main_v42_1 ↦{fullShare} W (Proc.devRef .tc main_v42_1))
        ∗ ((c : Thread nD τ).loc main_v42_0 ↦{fullShare} W (Proc.devRef .tc main_v42_0))) := by
  unfold StableHlo.held bodyRefs
  exact bigSep_eq_bigSepL_of_eq [Proc.devRef .tc main_arg0, Proc.devRef .tc main_v42_1, Proc.devRef .tc main_v42_0] (by decide) (by decide) _

theorem scr_eq (c : Dev nD) : (scr c : sProp 𝕄) = Pipeline.scopedRest spec0 c := by
  rw [Gen.scopedRest0_eq]
  unfold scr aP bP sP
  simp only [View.set_whole]
  rfl

/-! ## The record -/

/-- What is handed to the region, and what it hands back. -/
def handed (c : Dev nD) : sProp 𝕄 := ghost m c
def closed (c : Dev nD) : sProp 𝕄 := semVal (cellB c) 0

theorem hopen (c : Dev nD) : iprop(handed m c ∗ Pipeline.ownSems0 ownSem c ∗ levAts Lx lv) ⊢ iprop(|={Set.univ}=> opened m c) := by
  have hall (κ : GSem nD τ sig → ℕ) : iprop(Inv m κ ∗ bigSep Finset.univ fun k : Own => iprop(openTok ER ((c : Thread nD τ), ownSem k) ∗ semVal ((c : Thread nD τ), ownSem k) 0))
      ⊢ iprop(|={Set.univ}=> bigSep Finset.univ fun k : Own => iprop(atPos ER ((c : Thread nD τ), ownSem k) 0 ∅ 0 ∗ reached ER ((c : Thread nD τ), ownSem k) 0)) :=
    (bigSep_with_persistent fun k _ => (sep_mono_left (inv_own m κ c k)).trans (Rounds.cell_open ER (sched m) (Set.mem_univ _))).trans (bigSep_fupd _ _)
  unfold handed ghost opened Pipeline.ownSems0
  iintro ⟨⟨%κ, #HI, Hat, Htk, HrB, Ht, Hc⟩, Hs, #Hlev⟩
  imod (hall κ) $$ [Htk Hs] with Hopen
  · isplitr; · iexact HI
    iapply (Entails.of_eq (bigSep_sep' Finset.univ (fun k : Own => openTok ER ((c : Thread nD τ), ownSem k)) fun k : Own => semVal ((c : Thread nD τ), ownSem k) 0).symm)
    isplitl [Htk] <;> iassumption
  imodintro
  isplitl
  · iexists κ
    isplitr; · iexact HI
    isplitl [Hat]; · iexact Hat
    isplitl [Hopen]; · iexact Hopen
    isplitl [HrB]; · iexact HrB
    isplitl [Ht]; · iexact Ht
    iexact Hc
  iexact Hlev

theorem hin (c : Dev nD) : iprop(Pipeline.scopedRest spec0 c ∗ (∃ r, prngReg c r) ∗ StableHlo.held (c.tc : Thread nD τ) bodyRefs (Wpre m c) ∗ opened m c) ⊢ atStart m c := by
  rw [← scr_eq, held_body, Wpre_arg]
  unfold atStart argW
  iintro ⟨Hs, Hp, ⟨HX, Hrecv, Hout⟩, HK⟩
  isplitl [HK]; · iexact HK
  isplitl [HX]; · iexact HX
  isplitl [Hrecv]; · iexists _; iexact Hrecv
  isplitl [Hout]; · iexists _; iexact Hout
  isplitl [Hs]; · iexact Hs
  iexact Hp

theorem hout (c : Dev nD) : atEnd m c ⊢ iprop(Pipeline.scopedRest spec0 c ∗ (∃ r, prngReg c r) ∗ StableHlo.held (c.tc : Thread nD τ) bodyRefs (Wend m c)
    ∗ Pipeline.ownSems0 ownSem c ∗ closed c) := by
  rw [← scr_eq, held_body, Wend_arg, Wend_in, Wend_out]
  unfold atEnd closed argW
  iintro ⟨HB, Hown, HX, Hrecv, Hout, Hs, Hp⟩
  isplitl [Hs]; · iexact Hs
  isplitl [Hp]; · iexact Hp
  isplitl [HX Hrecv Hout]
  · isplitl [HX]; · iexact HX
    isplitl [Hrecv] <;> iassumption
  isplitl [Hown]; · iexact Hown
  iexact HB

def dats : (p : Fin 1) → (c : Dev nD) → Dat τ (Elt F) Unit ℕ UU ℕ (cfgs p) c := fun | 0 => dat m | ⟨_ + 1, h⟩ => absurd h (Nat.not_lt.2 (Nat.le_add_left _ _))

theorem cells_inj : Function.Injective (Pipeline.cellOf (nD := nD) (τ := τ) (Pipeline.pin (pcfgs (F := F)) Gen.adm)) := Gen.cellOf_inj

theorem kitP : Pipeline.PLaunchFacts (nD := nD) (τ := τ) (pcfgs (F := F)) 0 where
  cellOf_inj a := by rw [Subsingleton.elim a Gen.adm]; exact cells_inj
  win := Gen.winFacts0
  pre := Pipeline.PreFacts.none _
  block_pos := Gen.block_pos0
  arr_whole := Gen.arr_whole0
  stage_whole := Gen.stage_whole0

theorem cut_owed (c : Dev nD) (t : Fin (cfg0.N + 1)) (g : GSem nD τ sig) (i : Unit) (h : 0 < (dat m c).owed t g i) : i ∈ Lx g ∧ (0 : ℕ) < lv g i := by
  have e : (dat m c).owed t = if t.val = 0 then Ow c 0 else 0 := rfl
  rw [e] at h
  split at h
  · obtain ⟨j, -, rfl⟩ := Ow_pos h
    refine ⟨by rw [Lx_tc]; exact Finset.mem_singleton_self _, ?_⟩
    show 0 < lv (dCell c j) ()
    rw [lv_dCell]
    split_ifs <;> omega
  · exact absurd h (Nat.lt_irrefl 0)

theorem lv_stage (c : Dev nD) (s : Fin (spec0 0).nbuf) : lv ((c : Thread nD τ), .dma ((spec0 0).sem s)) () ≤ 0 := by
  have h : ∀ s : Fin (spec0 0).nbuf, kd (.dma ((spec0 0).sem s)) = .other := by decide
  unfold lv
  rw [h]

theorem own_facts : Pipeline.OwnSemFacts spec0 ownSem := ⟨by decide +kernel, ownSem_inj, by decide +kernel⟩

theorem arr_tab (c : Dev nD) (n : ℕ) (w : Fin 1) : (dat m c).arrAt w n = Wpre m c (Proc.devRef .tc (Pipeline.arrRef spec0 w)) := by
  match w with
  | 0 => exact ((dat m c).arrAt_in (0 : Fin 1) rfl n).trans (table_eq m c).symm
theorem arr_tab_end (c : Dev nD) (n : ℕ) (w : Fin 1) : (dat m c).arrAt w n = Wend m c (Proc.devRef .tc (Pipeline.arrRef spec0 w)) := by
  rw [arr_tab]
  match w with
  | 0 => exact (Wend_ne m c _ (by decide) (by decide)).symm

set_option backward.isDefEq.respectTransparency.types false in
/-- The region's record. -/
def reg : Pipeline.RegionSeg (pcfgs (F := F)) Gen.adm (dats m) () defs₀ 𝒱₀ Lx lv 0 :=
  Pipeline.RegionSeg.ofTalk (pcfgs (F := F)) Gen.adm (dats m) () defs₀ 𝒱₀ Lx lv 0 ownSem own_facts
    bodyRefs restRefs body_sub kitP rfl (fun c => (body_ob m c).loose)
    (fun _ => 0) (fun c => Ow c 0) (fun _ => (zero_add _).symm) (fun _ => rfl) (fun _ => rfl)
    (fun c w => by unfold Dat.share; split <;> rfl)
    (Wpre m) (Wend m)
    (fun c b hb => Wend_ne m c b (fun e => (Finset.mem_sdiff.mp hb).2 (by rw [e]; decide)) (fun e => (Finset.mem_sdiff.mp hb).2 (by rw [e]; decide)))
    (handed m) closed (opened m) closed (hopen m) (hin m) (hout m)
    (fun c => by iintro H; imodintro; iexact H)
    (fun _ => 0)
    ⟨fun c w s => by rw [Lx_tc]; exact Finset.mem_singleton_self _, fun c w s => by match w with | 0 => exact lv_stage c s, fun c t g i h => cut_owed m c t g i h⟩
    (fun _ => iprop(emp))
    (fun c w => arr_tab m c 0 w) (fun c w => arr_tab_end m c _ w)

end Cert.KernelIdeal.Ring

end
-- ==== Proof.Launch.lean ====
/- The launch: every counter's invariant set up, the rights to pay handed to those who pay, and what is owed to each device
   counted out to it. -/
module

public import proofs.«01_k».proof.Proof.Record

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-! ## The rights to pay -/

/-- The duties at a device's counters: three to come in, three to leave, the local copies' of each round, the sends', the arrivals'. -/
abbrev Duty : Type := Fin 3 ⊕ (Fin 3 ⊕ ((Fin 16 × Fin 3) ⊕ (Fin 16 ⊕ Fin 16)))
def dutyOf : Duty → SemLoc sig × ℕ × Fin 3
  | .inl d => (.reg bar, 0, d)
  | .inr (.inl d) => (.reg fin, 0, d)
  | .inr (.inr (.inl p)) => (.dma (cpS p.2), p.1.val, 0)
  | .inr (.inr (.inr (.inl r))) => (.dma (sndS r), 0, 0)
  | .inr (.inr (.inr (.inr r))) => (.dma (rcvS r), 0, 0)

theorem dutyOf_inj : Function.Injective dutyOf := by decide +kernel

def dutyEmb : Dev nD × Duty ↪ GSem nD τ sig × ℕ × Fin 3 :=
  ⟨fun p => (((p.1 : Thread nD τ), (dutyOf p.2).1), (dutyOf p.2).2), fun p q h => by
    have h1 : p.1 = q.1 := congrArg (fun t : GSem nD τ sig × ℕ × Fin 3 => t.1.1.1) h
    have h2 : (dutyOf p.2).1 = (dutyOf q.2).1 := congrArg (fun t : GSem nD τ sig × ℕ × Fin 3 => t.1.2) h
    have h3 : (dutyOf p.2).2 = (dutyOf q.2).2 := congrArg (fun t : GSem nD τ sig × ℕ × Fin 3 => t.2) h
    exact Prod.ext h1 (dutyOf_inj (Prod.ext h2 h3))⟩
def allDuties : Finset (GSem nD τ sig × ℕ × Fin 3) := Finset.univ.map dutyEmb

/-- A device with one of its three neighbours, seen from the neighbour. -/
def across : Dev nD × Fin 3 ≃ Dev nD × Fin 3 where
  toFun p := (nb p.1 p.2, dual p.2)
  invFun p := (nb p.1 p.2, dual p.2)
  left_inv p := Prod.ext (nb_dual p.1 p.2) (dual_dual p.2)
  right_inv p := Prod.ext (nb_dual p.1 p.2) (dual_dual p.2)
theorem nb_of_dual (c : Dev nD) (d : Fin 3) : nb (nb c (dual d)) d = c := by
  have h := nb_dual c (dual d)
  rwa [dual_dual] at h
/-- A device with one of its sends, seen from where it goes. -/
def along : Dev nD × Fin 16 ≃ Dev nD × Fin 16 where
  toFun p := (dest p.1 p.2, p.2)
  invFun p := (nb p.1 (dual (cls p.2)), p.2)
  left_inv p := Prod.ext (nb_dual p.1 (cls p.2)) rfl
  right_inv p := Prod.ext (nb_of_dual p.1 (cls p.2)) rfl

/-- A family over devices and neighbours, handed across; over devices and sends, handed along. -/
theorem hand_across (Φ : Dev nD → Fin 3 → sProp 𝕄) :
    (bigSep Finset.univ fun c => bigSep Finset.univ fun d => Φ c d) = bigSep Finset.univ fun c => bigSep Finset.univ fun d => Φ (nb c d) (dual d) := by
  rw [← bigSep_univ_prod (fun p : Dev nD × Fin 3 => Φ p.1 p.2), bigSep_univ_equiv across (fun p : Dev nD × Fin 3 => Φ p.1 p.2), bigSep_univ_prod]
  rfl
theorem hand_along (Φ : Dev nD → Fin 16 → sProp 𝕄) :
    (bigSep Finset.univ fun c => bigSep Finset.univ fun r => Φ c r) = bigSep Finset.univ fun c => bigSep Finset.univ fun r => Φ (dest c r) r := by
  rw [← bigSep_univ_prod (fun p : Dev nD × Fin 16 => Φ p.1 p.2), bigSep_univ_equiv along (fun p : Dev nD × Fin 16 => Φ p.1 p.2), bigSep_univ_prod]
  rfl

/-- The rights at a device's own counters. -/
def rights (c : Dev nD) : sProp 𝕄 :=
  iprop((bigSep Finset.univ fun d : Fin 3 => dutyTok ER (cellB c) 0 d)
    ∗ (bigSep Finset.univ fun d : Fin 3 => dutyTok ER (cellX c) 0 d)
    ∗ (bigSep Finset.univ fun r : Fin 16 => cpTok c r.val)
    ∗ (bigSep Finset.univ fun r : Fin 16 => dutyTok ER (cellS c r) 0 0)
    ∗ bigSep Finset.univ fun r : Fin 16 => dutyTok ER (cellR c r) 0 0)

theorem rights_eq : bigSep allDuties (fun x => (dutyTok ER x.1 x.2.1 x.2.2 : sProp 𝕄)) = bigSep Finset.univ fun c : Dev nD => rights c := by
  unfold allDuties
  rw [bigSep_map, bigSep_univ_prod]
  refine bigSep_congr fun c _ => ?_
  rw [bigSep_univ_sum, bigSep_univ_sum, bigSep_univ_sum, bigSep_univ_sum, bigSep_univ_prod]
  rfl

/-- Handed to those who pay. -/
theorem rights_tokens : (bigSep Finset.univ fun c : Dev nD => (rights c : sProp 𝕄)) = bigSep Finset.univ fun c : Dev nD => tokens c := by
  unfold rights tokens
  simp only [bigSep_sep']
  rw [hand_across (fun c d => dutyTok ER (cellB c) 0 d), hand_across (fun c d => dutyTok ER (cellX c) 0 d),
    hand_along (fun c r => dutyTok ER (cellR c r) 0 0)]

/-! ## What each device is owed -/

/-- To which of the three neighbours payment `i` goes. -/
def dCls (i : Fin 22) : Fin 3 :=
  if h : i.val < 3 then ⟨i.val, h⟩ else if h' : i.val < 19 then cls ⟨i.val - 3, by omega⟩ else ⟨i.val - 19, by omega⟩
theorem dDev_nb (c : Dev nD) (i : Fin 22) : dDev c i = nb c (dCls i) := by
  unfold dDev dCls dest
  split_ifs <;> rfl
theorem dDev_iff (c d : Dev nD) (i : Fin 22) : c = dDev d i ↔ d = nb c (dual (dCls i)) := by
  rw [dDev_nb]
  constructor
  · rintro rfl; exact (nb_dual d (dCls i)).symm
  · rintro rfl; exact (nb_of_dual c (dCls i)).symm

/-- All that is owed on a semaphore of a device: each payment on it, once. -/
theorem owed_on (c : Dev nD) (sm : SemLoc sig) :
    ∑ d : Dev nD, Ow d 0 ((c : Thread nD τ), sm) () = ∑ i : Fin 22, if sm = dSem i then dAmt i else 0 := by
  have h (d : Dev nD) : Ow d 0 ((c : Thread nD τ), sm) () = ∑ i : Fin 22, if d = nb c (dual (dCls i)) then (if sm = dSem i then dAmt i else 0) else 0 := by
    unfold Ow
    rw [Finset.filter_true_of_mem fun i _ => Nat.zero_le _, Finset.sum_apply, Finsupp.finset_sum_apply]
    refine Finset.sum_congr rfl fun i _ => ?_
    rw [tallyAt_apply]
    by_cases hd : d = nb c (dual (dCls i))
    · rw [if_pos hd]
      have hc := (dDev_iff c d i).mpr hd
      by_cases hs : sm = dSem i
      · rw [if_pos hs, if_pos ⟨by rw [dCell, ← hc, ← hs], rfl⟩]
      · rw [if_neg hs, if_neg fun h => hs (congrArg Prod.snd h.1)]
    · rw [if_neg hd, if_neg fun h => hd ((dDev_iff c d i).mp (congrArg (fun g : GSem nD τ sig => g.1.1) h.1))]
  rw [Finset.sum_congr rfl fun d _ => h d, Finset.sum_comm]
  refine Finset.sum_congr rfl fun i _ => ?_
  rw [Finset.sum_ite_eq' Finset.univ (nb c (dual (dCls i))) fun _ => if sm = dSem i then dAmt i else 0, if_pos (Finset.mem_univ _)]

theorem sem_bar : ∀ i : Fin 22, SemLoc.reg bar = dSem i ↔ i.val < 3 := by decide +kernel
theorem sem_fin : ∀ i : Fin 22, SemLoc.reg fin = dSem i ↔ 19 ≤ i.val := by decide +kernel
theorem sem_rcv : ∀ (r : Fin 16) (i : Fin 22), SemLoc.dma (rcvS r) = dSem i ↔ i = ⟨r.val + 3, by omega⟩ := by decide +kernel

theorem sum_bar : (∑ i : Fin 22, if SemLoc.reg bar = dSem i then dAmt i else 0) = 3 := by
  have h (i : Fin 22) : (if SemLoc.reg bar = dSem i then dAmt i else 0) = if i.val < 3 then 1 else 0 := by
    by_cases hi : i.val < 3
    · rw [if_pos ((sem_bar i).mpr hi), if_pos hi]; exact if_pos hi
    · rw [if_neg fun e => hi ((sem_bar i).mp e), if_neg hi]
  rw [Finset.sum_congr rfl fun i _ => h i]
  decide
theorem sum_fin : (∑ i : Fin 22, if SemLoc.reg fin = dSem i then dAmt i else 0) = 3 := by
  have h (i : Fin 22) : (if SemLoc.reg fin = dSem i then dAmt i else 0) = if 19 ≤ i.val then 1 else 0 := by
    by_cases hi : 19 ≤ i.val
    · rw [if_pos ((sem_fin i).mpr hi), if_pos hi]
      unfold dAmt
      rw [if_neg (by omega), if_neg (by omega)]
    · rw [if_neg fun e => hi ((sem_fin i).mp e), if_neg hi]
  rw [Finset.sum_congr rfl fun i _ => h i]
  decide
theorem sum_rcv (r : Fin 16) : (∑ i : Fin 22, if SemLoc.dma (rcvS r) = dSem i then dAmt i else 0) = N := by
  have h (i : Fin 22) : (if SemLoc.dma (rcvS r) = dSem i then dAmt i else 0) = if i = ⟨r.val + 3, by omega⟩ then N else 0 := by
    by_cases hi : i = ⟨r.val + 3, by omega⟩
    · rw [if_pos ((sem_rcv r i).mpr hi), if_pos hi, hi]
      unfold dAmt
      rw [if_neg (by simp), if_pos (by simp <;> omega)]
    · rw [if_neg fun e => hi ((sem_rcv r i).mp e), if_neg hi]
  rw [Finset.sum_congr rfl fun i _ => h i, Finset.sum_ite_eq' Finset.univ _ fun _ => N, if_pos (Finset.mem_univ _)]

theorem credit_on (c : Dev nD) (sm : SemLoc sig) (n : ℕ) (h : (∑ i : Fin 22, if sm = dSem i then dAmt i else 0) = n) :
    tallyOn ((c : Thread nD τ), sm) (launchCredit (Pipeline.owing fun c => Ow c 0) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, owed_on, h]

/-- The counters others owe on. -/
abbrev Owed : Type := Unit ⊕ (Unit ⊕ Fin 16)
def owedSem : Owed → SemLoc sig
  | .inl _ => .reg bar
  | .inr (.inl _) => .reg fin
  | .inr (.inr r) => .dma (rcvS r)
theorem owedSem_inj : Function.Injective owedSem := by decide +kernel

/-- The launch's count of what a device is owed. -/
theorem creds (c : Dev nD) : (Pipeline.launchCred (fun c => Ow c 0) c : sProp 𝕄) ⊢ credits c := by
  unfold Pipeline.launchCred credits
  have e : bigSep (Finset.univ.map ⟨owedSem, owedSem_inj⟩)
        (fun sm => (cred (tallyOn ((c : Thread nD τ), sm) (launchCredit (Pipeline.owing fun c => Ow c 0) 0 ((c : Thread nD τ), sm))) : sProp 𝕄))
      = iprop(cred (tallyAt (cellB c) () 3) ∗ cred (tallyAt (cellX c) () 3) ∗ bigSep Finset.univ fun r : Fin 16 => cred (tallyAt (cellR c r) () N)) := by
    rw [bigSep_map, bigSep_univ_sum, bigSep_univ_sum, show (Finset.univ : Finset Unit) = {()} from rfl, bigSep_singleton, bigSep_singleton,
      ← credit_on c (.reg bar) 3 sum_bar, ← credit_on c (.reg fin) 3 sum_fin,
      bigSep_congr (Φ := fun r : Fin 16 => (cred (tallyAt (cellR c r) () N) : sProp 𝕄)) fun r _ => by rw [← credit_on c (.dma (rcvS r)) N (sum_rcv r)]]
    rfl
  rw [← e]
  exact bigSep_subset (Finset.subset_univ _)

/-! ## The start -/

theorem cells_disjoint : Disjoint barCells ownCells := by
  rw [Finset.disjoint_left]
  rintro g h₁ h₂
  unfold barCells at h₁
  unfold ownCells at h₂
  obtain ⟨c, -, rfl⟩ := Finset.mem_map.mp h₁
  obtain ⟨p, -, h⟩ := Finset.mem_map.mp h₂
  exact ownSem_ne_bar p.2 (congrArg Prod.snd h)

/-- The launch's element: the pipeline's and the protocol's. -/
def u₀ : UU :=
  (initOf (Pipeline.cells (Pipeline.pin (pcfgs (F := F)) Gen.adm) cells_inj) (Pipeline.launchToks (Pipeline.pin (pcfgs (F := F)) Gen.adm) cells_inj),
    launchOf barCells ownCells allDuties)

/-- The protocol's part, laid by at the first device. -/
def seed (c : Dev nD) : sProp 𝕄 := if c = 0 then BI.own (ER (launchOf barCells ownCells allDuties)) else iprop(emp)
theorem seed_eq : bigSep Finset.univ (seed (F := F)) = BI.own (ER (launchOf barCells ownCells allDuties)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

/-- What every device may look up. -/
def known (κ : GSem nD τ sig → ℕ) : sProp 𝕄 := iprop(Inv m κ ∗ bigSep barCells fun g => reached ER g 0)
instance known_persistent (κ : GSem nD τ sig → ℕ) : BI.Persistent (known m κ) := by unfold known; infer_instance

/-- What is a device's alone. -/
def mine (c : Dev nD) : sProp 𝕄 :=
  iprop(atPos ER (cellB c) 0 ∅ 0 ∗ (bigSep Finset.univ fun k : Own => openTok ER ((c : Thread nD τ), ownSem k)) ∗ tokens c)
/-- The rest of what the region does not change of a device's state, before it and after. -/
def still (c : Dev nD) (O : CellTallies nD τ sig Unit) : sProp 𝕄 := iprop((∃ r, prngReg c r) ∗ ∃ W, owes (c : Thread nD τ) O W)
def rest (i : Fin 2) (c : Dev nD) : sProp 𝕄 :=
  if i.val = 0 then iprop(handed m c ∗ still c (Ow c 0)) else iprop(closed c ∗ still c 0)

theorem bars_open (c : Dev nD) : (bigSep barCells fun g => (reached ER g 0 : sProp 𝕄)) ⊢ barsOpen c :=
  bigSep_intro_persistent fun d _ => bigSep_elim (Finset.mem_map_of_mem barEmb (Finset.mem_univ (nb c d)))

theorem handed_intro (κ : GSem nD τ sig → ℕ) (c : Dev nD) : iprop(known m κ ∗ (mine c ∗ credits c ∗ still c (Ow c 0))) ⊢ rest m 0 c := by
  show _ ⊢ iprop(handed m c ∗ still c (Ow c 0))
  unfold known mine handed ghost
  iintro ⟨⟨#HI, #HR⟩, ⟨Hat, Htk, Ht⟩, Hc, Hst⟩
  isplitr [Hst]
  · iexists κ
    isplitr; · iexact HI
    isplitl [Hat]; · iexact Hat
    isplitl [Htk]; · iexact Htk
    isplitr; · iapply (bars_open (F := F) c); iexact HR
    isplitl [Ht]; · iexact Ht
    iexact Hc
  iexact Hst

theorem unscoped_bar (c : Dev nD) : (unscopedSems0 c : sProp 𝕄) = semVal (cellB c) 0 := by
  unfold unscopedSems0
  rw [show (Finset.univ.filter fun sm : SemLoc sig => ¬ sm.isScoped .tc) = {SemLoc.reg bar} from by decide +kernel, bigSep_singleton]

/-- Two families over the devices, apart and together. -/
theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
theorem together {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

variable (ρ : Dev nD → PrngReg)

/-- Every device's state before the host's operations, made on all of them at once. -/
theorem init :
    iprop((bigSep Finset.univ fun c : Dev nD => iprop(unscopedBufs c (fun b => m ((c : Thread nD τ).loc b)) ∗ unscopedSems0 c
          ∗ owes (c : Thread nD τ) (Ow c 0) ∅ ∗ Pipeline.launchCred (fun c => Ow c 0) c ∗ prngReg c (ρ c) ∗ seed c)) ∗ levAts Lx lv)
      ⊢ iprop(|={Set.univ}=> bigSep Finset.univ fun c : Dev nD => iprop(StableHlo.held (c : Thread nD τ) (Pipeline.ucRefs τ sig) (Gen.V0 m c) ∗ rest m 0 c)) := by
  have hcore (c : Dev nD) : iprop(unscopedBufs c (fun b => m ((c : Thread nD τ).loc b)) ∗ unscopedSems0 c
        ∗ owes (c : Thread nD τ) (Ow c 0) ∅ ∗ Pipeline.launchCred (fun c => Ow c 0) c ∗ prngReg c (ρ c) ∗ seed c)
      ⊢ iprop(StableHlo.held (c : Thread nD τ) (Pipeline.ucRefs τ sig) (Gen.V0 m c) ∗ (credits c ∗ still c (Ow c 0)) ∗ (semVal (cellB c) 0 ∗ seed c)) := by
    rw [show unscopedBufs c (fun b => m ((c : Thread nD τ).loc b)) = StableHlo.held (c : Thread nD τ) (Pipeline.ucRefs τ sig) (Gen.V0 m c) from
      Pipeline.unscopedBufs_held c (Gen.V0 m c), unscoped_bar]
    unfold still
    iintro ⟨Hh, Hs, HO, Hcr, Hp, HG⟩
    isplitl [Hh]; · iexact Hh
    isplitl [HO Hcr Hp]
    · isplitl [Hcr]; · iapply (creds (F := F) c); iexact Hcr
      isplitl [Hp]; · iexists _; iexact Hp
      iexists _; iexact HO
    isplitl [Hs] <;> iassumption
  have hall : (bigSep Finset.univ fun c : Dev nD => iprop(unscopedBufs c (fun b => m ((c : Thread nD τ).loc b)) ∗ unscopedSems0 c
        ∗ owes (c : Thread nD τ) (Ow c 0) ∅ ∗ Pipeline.launchCred (fun c => Ow c 0) c ∗ prngReg c (ρ c) ∗ seed c))
      ⊢ (bigSep Finset.univ fun c : Dev nD => iprop(StableHlo.held (c : Thread nD τ) (Pipeline.ucRefs τ sig) (Gen.V0 m c) ∗ (credits c ∗ still c (Ow c 0)) ∗ (semVal (cellB c) 0 ∗ seed c)) : sProp 𝕄) :=
    bigSep_mono fun c _ => hcore c
  have hv : bigSep Finset.univ (fun c : Dev nD => (semVal (cellB c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cellB c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Own => (openTok ER ((c : Thread nD τ), ownSem k) : sProp 𝕄)) :=
    Entails.of_eq (by unfold ownCells; rw [bigSep_map, bigSep_univ_prod]; rfl)
  have htok := Entails.of_eq ((rights_eq (F := F)).trans (rights_tokens (F := F)))
  have hseed := Entails.of_eq (seed_eq (F := F))
  iintro ⟨H, -⟩
  ihave H' := hall $$ H
  ihave H1 := apart $$ H'
  icases H1 with ⟨Hh, H2⟩
  ihave H3 := apart $$ H2
  icases H3 with ⟨Hc, H4⟩
  ihave H5 := apart $$ H4
  icases H5 with ⟨Hv, Hg⟩
  ihave Hu := hseed $$ Hg
  imod (Rounds.fund_launch ER (sched m) cells_disjoint (fun g _ h => h) allDuties) $$ [Hv Hu] with ⟨%κ, -, #Hinv, #Hr, Hat, Hopen, Htok⟩
  · isplitl [Hv]
    · iapply hv $$ Hv
    · iexact Hu
  imodintro
  iapply together
  isplitl [Hh]; · iexact Hh
  iapply (bigSep_with_persistent (R := known m κ) (Φ := fun c => iprop(mine c ∗ credits c ∗ still c (Ow c 0))) fun c _ => handed_intro m κ c)
  isplitr
  · unfold known Inv
    isplitr; · iexact Hinv
    iexact Hr
  iapply together
  isplitr [Hc]
  · unfold mine
    iapply together
    isplitl [Hat]; · iapply hat $$ Hat
    iapply together
    isplitl [Hopen]; · iapply hopen $$ Hopen
    iapply htok $$ Htok
  iexact Hc

end Cert.KernelIdeal.Ring

end
-- ==== Proof.Run.lean ====
/- The whole run of the kernel's program: it ends on every device, with the argument as it was, the result the sum of the
   device's half and the half that came in, and every counter at zero. -/
module

public import proofs.«01_k».proof.Proof.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

theorem reg_pre (c : Dev nD) : iprop(StableHlo.held (c : Thread nD τ) (Pipeline.ucRefs τ sig) (Gen.V1 m c) ∗ rest m 0 c) ⊢ (reg m).pre c := by
  show _ ⊢ iprop(StableHlo.held (c.tc : Thread nD τ) tabRefs (Wpre m c) ∗ (∃ r, prngReg c r)
    ∗ (StableHlo.held (c.tc : Thread nD τ) restRefs (Wpre m c) ∗ emp) ∗ handed m c ∗ ∃ Wd, owes (c : Thread nD τ) (0 + Ow c 0) Wd)
  rw [zero_add, show StableHlo.held (c : Thread nD τ) (Pipeline.ucRefs τ sig) (Gen.V1 m c) = iprop(StableHlo.held (c.tc : Thread nD τ) tabRefs (Wpre m c) ∗ StableHlo.held (c.tc : Thread nD τ) restRefs (Wpre m c)) from
    StableHlo.held_sub_split (c.tc : Thread nD τ) tab_sub (Wpre m c), show rest m 0 c = iprop(handed m c ∗ still c (Ow c 0)) from rfl]
  unfold still
  iintro ⟨⟨Ht, Hr⟩, HK, Hp, HO⟩
  isplitl [Ht]; · iexact Ht
  isplitl [Hp]; · iexact Hp
  isplitl [Hr]
  · isplitl [Hr]; · iexact Hr
    iempintro
  isplitl [HK]; · iexact HK
  iexact HO

/-- A device's last state. -/
def final (c : Dev nD) : sProp 𝕄 := iprop(StableHlo.held (c.tc : Thread nD τ) (Pipeline.ucRefs τ sig) (Wend m c) ∗ closed c)

theorem reg_post (c : Dev nD) : (reg m).post c ⊢ iprop(final m c ∗ ∃ W, owes (c : Thread nD τ) (0 : CellTallies nD τ sig Unit) W) := by
  show iprop(StableHlo.held (c.tc : Thread nD τ) tabRefs (Wend m c) ∗ (∃ r, prngReg c r)
    ∗ (StableHlo.held (c.tc : Thread nD τ) restRefs (Wend m c) ∗ emp) ∗ closed c ∗ ∃ Wd, owes (c : Thread nD τ) (0 : CellTallies nD τ sig Unit) Wd) ⊢ _
  unfold final
  rw [show StableHlo.held (c.tc : Thread nD τ) (Pipeline.ucRefs τ sig) (Wend m c) = iprop(StableHlo.held (c.tc : Thread nD τ) tabRefs (Wend m c) ∗ StableHlo.held (c.tc : Thread nD τ) restRefs (Wend m c)) from
    StableHlo.held_sub_split (c.tc : Thread nD τ) tab_sub (Wend m c)]
  iintro ⟨Ht, -, ⟨Hr, -⟩, Hb, HO⟩
  isplitr [HO]
  · isplitl [Ht Hr]
    · isplitl [Ht] <;> iassumption
    iexact Hb
  iexact HO

theorem unscoped_eq : ∀ sm : SemLoc sig, sm.isScoped .tc = false → sm = .reg bar := by decide +kernel

/-- What is read off a device's last state. -/
def Reads (c : Dev nD) (s : MemSt nD τ sig (Elt F)) : Prop :=
  (s.mem ((c : Thread nD τ).loc main_arg0) = argOf m c ∧ s.mem ((c : Thread nD τ).loc main_v42_0) = sumA m c) ∧ s.sem (cellB c) = 0

theorem reads (c : Dev nD) (s' : Phys nD τ sig (Elt F)) : iprop(final m c ∗ SI s') ⊢ iprop(|={Set.univ}=> iprop(⌜Reads m c s'.mem⌝ ∗ SI s')) := by
  unfold final StableHlo.held closed
  iintro ⟨⟨Hh, Hb⟩, HSI⟩
  icombine HSI Hb gives %hb
  ihave Hr := (pointsTo_read_all (Pipeline.ucRefs τ sig) (fun b => ((c : Thread nD τ).1, b)) (Wend m c) s') $$ [Hh HSI]
  · isplitl [Hh] <;> iassumption
  icases Hr with ⟨%h, HSI⟩
  imodintro
  isplitr
  · ipureintro
    exact ⟨⟨(h _ (uc_mem main_arg0 (by decide))).trans (Wend_arg m c), (h _ (uc_mem main_v42_0 (by decide))).trans (Wend_out m c)⟩, by simpa using hb⟩
  · iexact HSI

variable (ρ : Dev nD → PrngReg)

set_option backward.isDefEq.respectTransparency.types false in
/-- The run: from any memory with its counters at zero, every device ends with its argument unchanged and its result the sum of
    the two halves, and no counter of the mesh is left standing. -/
theorem run_main : θ_run defs (onTc (τ := τ) (main (F := F))) ⟨m, fun _ => 0, ρ⟩ (fun r => (∀ c : Dev nD,
      r.2.mem ((c : Thread nD τ).loc main_arg0) = argOf m c ∧ r.2.mem ((c : Thread nD τ).loc main_v42_0) = sumA m c) ∧ r.2.sem = fun _ => 0) :=
  Pipeline.θ_run_regions_kit_dev_sems (pcfgs (F := F)) Gen.adm (dats m) () cells_inj EP defs₀ 𝒱₀ Lx lv m ρ main
    (Gen.segs m 𝒱₀ Lx lv (rest m) () (dats m) (reg m))
    (fun c Q => by
      rewrite [Gen.main_chain c, Pipeline.Seg.run_eq_chain,
        show (Gen.segs m 𝒱₀ Lx lv (rest m) () (dats m) (reg m) c).map Pipeline.Seg.prog = [
          StableHlo.seq (Gen.hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := fun c => Ow c 0) (hL := Lx_of_ne) (G := seed) (u₀ := u₀ (F := F))
    (hu₀ := by
      have hseed := Entails.of_eq (seed_eq (F := F)).symm
      unfold u₀
      iintro Hu
      ihave H := (ownU_pair _ _) $$ Hu
      icases H with ⟨HP, HX⟩
      imodintro
      isplitl [HP]; · iexact HP
      iapply hseed; iexact HX)
    (T₀ := fun c => iprop(StableHlo.held (c : Thread nD τ) (Pipeline.ucRefs τ sig) (Gen.V0 m c) ∗ rest m 0 c)) (Tₙ := final m)
    (hch := fun c => ⟨.rfl, reg_pre m c, reg_post m c⟩)
    (hinit := init m ρ)
    (QY := Reads m)
    (hfin := reads m)
    (hQ := fun s h hs => ⟨fun c => (h c).1, sem_eq_zero hs fun c sm hsm => by
      obtain rfl := unscoped_eq sm hsm
      exact (h c).2⟩)

end Cert.KernelIdeal.Ring

end
-- ==== Proof.Same.lean ====
/- The kernel's program and its ideal reading are one text: their bodies, tables and host lines are equal over any float
   values. -/
module

public import proofs.«01_k».proof.Proof.Gen.Kernel
public import proofs.«01_k».proof.Proof.Gen.KernelIdeal
public import Idealize.ShloMosaic.Adequacy

@[expose] public section

noncomputable section

namespace Cert.Proof

open Idealize.ShloMosaic Idealize.SL.Sem

variable {F : FTy → Type} [FloatOps F]

/-- The two kernel bodies' tables are equal; -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
/-- so are the tables with the pipelines; -/
theorem defs_eq : Cert.Kernel.defs (F := F) = Cert.KernelIdeal.defs (F := F) := by
  unfold Cert.Kernel.defs Cert.KernelIdeal.defs
  exact congrArg (Pipeline.defs (Cert.KernelIdeal.pcfgs (F := F))) bodies_eq
set_option maxHeartbeats 4000000 in
/-- and the two host programs. -/
theorem main_eq : Cert.Kernel.main (F := F) = Cert.KernelIdeal.main (F := F) := rfl

/-- A run of a program is a run of an equal one. -/
theorem run_of_eq {nD : Nat} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val}
    {Q : PUnit × MemSt nD τ sig Val → Prop} (h : θ_run d' (onTc (τ := τ) p') s Q) : θ_run d (onTc (τ := τ) p) s Q := by
  subst hd hp; exact h

end Cert.Proof

end
-- ==== Proof.Ref.lean ====
/- The run of the reference: on its one device it ends with the result the sum of the array's two planes, the argument as
   it was, and no counter standing. -/
module

public import proofs.«01_k».proof.Proof.Gen.ReferenceIdeal
public import Idealize.ShloMosaic.Lib.StableHlo.RunHlo
public import Idealize.ShloMosaic.Lib.IdealHost
public import Idealize.ShloMosaic.Lib.Pointwise.Reduce
public import Idealize.ShloMosaic.Lib.Quiescent

@[expose] public section

noncomputable section

namespace Cert.ReferenceIdeal.Whole

open Idealize.ShloMosaic Idealize.ShloMosaic.TcCoe Idealize.ShloMosaic.StableHlo
open Idealize.SL.Sem
open Cert.ReferenceIdeal Cert.ReferenceIdeal.Gen

/-- The contents of the reference's argument, at the ideal instance. -/
abbrev Arg : Type := S2x16384x2048.Idx → Elt Ideal .f32
/-- The contents of its result. -/
abbrev Res : Type := S16384x2048.Idx → Elt Ideal .f32

/-- The sum of an array's two planes, element by element. -/
def planes (w : Arg) : Res := fun j => (show EReal from w (ix3 0 (j 0) (j 1))) + (show EReal from w (ix3 1 (j 0) (j 1)))

/-- What the reference computes of its argument is the sum of the two planes. -/
theorem reduce_eq (w : Arg) : Host.reduceAdd (F := Ideal) (φ := .f32) w (constant (F := Ideal) S_ .f32 0x00000000#32)
    reducesTo_S2x16384x2048_S16384x2048_d0 h_S_ = planes w := by
  funext j
  rw [ValueIdx.hostReduceAdd_apply, Ideal.hostReduceAdd_r3_a0, Fin.sum_univ_two]
  have h0 : (constant (F := Ideal) S_ .f32 0x00000000#32 (Shape.Idx.first h_S_) : EReal) = 0 := Ideal.ofBits_zero_f32
  rw [h0, zero_add]
  rfl

/-- The run of the reference, from any memory whose counters are at zero. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c : Thread nD τ).loc main_v0) = planes (m ((c : Thread nD τ).loc main_arg0))
        ∧ r.2.mem ((c : Thread nD τ).loc main_arg0) = m ((c : Thread nD τ).loc main_arg0)) ∧ r.2.sem = fun _ => 0 := by
  refine θ_run_mono (run_hlo defs main (by hlo_seq) (by decide) (by decide)
    (by exact ⟨nullary_bufs_sub .., binary_bufs_sub ..⟩) (by intro _ h; (repeat (cases h with | head => rfl | tail _ h => ?_)); exact nomatch h) m ρ)
    fun r h => ⟨fun c => ⟨(h c main_v0).trans ?_, (h c main_arg0).trans ?_⟩, sem_eq_zero_of_no_sems (by decide) r.2⟩
  · after_results
    exact reduce_eq _
  · after_results

end Cert.ReferenceIdeal.Whole

end
-- ==== Proof.Value.lean ====
/- What the kernel's result is at the ideal instance: from devices that hold the planes of one array, the sum of the two
   planes, each half of the devices holding half of its columns. -/
module

public import proofs.«01_k».proof.Proof.Rounds
public import proofs.«01_k».proof.Proof.Ref
public import Idealize.ShloMosaic.Lib.Layout

@[expose] public section

noncomputable section

namespace Cert.KernelIdeal.Ring

open Idealize.ShloMosaic Idealize.ShloMosaic.TcCoe
open Idealize.SL Idealize.SL.Sem
open Cert.KernelIdeal.Facts₀ Cert.KernelIdeal.Facts

/-- An element of the block at chunk `k` of half `x` of the argument: the row the chunk's, the column the half's. -/
theorem read_half {F : FTy → Type} (x : ℕ) (k : Fin 16) (f : S1x16384x2048.Idx → Elt F .f32) (j : S1024x1024.Idx)
    (a : Fin 16384) (b : Fin 2048) (ha : a.val = k.val * 1024 + (j 0).val) (hb : b.val = x % 2 * 1024 + (j 1).val) :
    (xV x k).view.read (Elt F) f j = f (ix3 0 a b) := by
  have h1 : (xV x k).view.read (Elt F) f j
      = f ((Rect.unit (s := S1x16384x2048) (xoff x k) S1x1024x1024.size (xoff_in x k)).emb
        (Shape.reshapeEquiv squeezes_S1x1024x1024_S1024x1024.numel_eq j)) := rfl
  rw [h1, Shape.reshapeEquiv_cons_one]
  refine congrArg f (funext fun d => ?_)
  match d with
  | ⟨0, _⟩ => exact Subsingleton.elim (α := Fin 1) _ _
  | ⟨1, _⟩ => exact Fin.ext ((ValueKit.rect_emb_unit_val (s := S1x16384x2048) (xoff x k) S1x1024x1024.size (xoff_in x k) _ 1).trans ha.symm)
  | ⟨2, _⟩ => exact Fin.ext ((ValueKit.rect_emb_unit_val (s := S1x16384x2048) (xoff x k) S1x1024x1024.size (xoff_in x k) _ 2).trans hb.symm)

/-- The partner's devices hold the other plane. -/
theorem xc_devAt : ∀ (x : ℕ) (p : Fin 16), xc (devAt x p) = x % 2 := by
  intro x p
  unfold xc devAt
  show (x % 2 * 16 + _) / 16 = x % 2
  omega

/-- The sum of two blocks at the ideal instance is the sum of the elements. -/
theorem pay_apply (u v : Blk Ideal) (j : S1024x1024.Idx) :
    Gen.k0_pay1 (F := Ideal) u v j = (show EReal from u j) + (show EReal from v j) := by
  unfold Gen.k0_pay1
  rw [shapeCast_self]
  rfl

variable (m : (ℓ : Loc nD τ sig) → Buf (Elt Ideal) ℓ) (w : Cert.ReferenceIdeal.Whole.Arg)

/-- The plane a device holds, as a claim's layout names it. -/
abbrev planeOf (c : Dev nD) : S1x16384x2048.Idx → Elt Ideal .f32 :=
  Layout.blockN ⟨3, ![1, 16384, 2048]⟩ ⟨3, ![2, 16384, 2048]⟩ (Layout.meshBlock [2, 4, 4] ![[0], [], []] c) w
/-- The columns of the result a device holds, as a claim's layout names them. -/
abbrev colsOf (c : Dev nD) (v : Cert.ReferenceIdeal.Whole.Res) : Big Ideal :=
  Layout.blockN ⟨2, ![16384, 1024]⟩ ⟨2, ![16384, 2048]⟩ (Layout.meshBlock [2, 4, 4] ![[], [0]] c) v

theorem planeOf_apply (c : Dev nD) (x : Fin 2) (hx : x.val = xc c) (a : Fin 16384) (b : Fin 2048) :
    planeOf w c (ix3 0 a b) = w (ix3 x a b) := by
  rw [planeOf, Layout.blockN_apply]
  refine congrArg w (funext fun d => Fin.ext ?_)
  rw [Layout.TilesN.idx_val]
  have hc : c.val < 32 := c.isLt
  unfold xc at hx
  match d with
  | ⟨0, _⟩ =>
    show ((c.val / 16) % 2 * 1 + 0) * 1 + 0 = x.val
    omega
  | ⟨1, _⟩ =>
    show 0 * 16384 + a.val = a.val
    omega
  | ⟨2, _⟩ =>
    show 0 * 2048 + b.val = b.val
    omega

theorem colsOf_apply (c : Dev nD) (v : Cert.ReferenceIdeal.Whole.Res) (i : S16384x1024.Idx) (b : Fin 2048)
    (hb : b.val = xc c * 1024 + (i 1).val) : colsOf c v i = v (ix2 (i 0) b) := by
  rw [colsOf, Layout.blockN_apply]
  refine congrArg v (funext fun d => Fin.ext ?_)
  rw [Layout.TilesN.idx_val]
  have hc : c.val < 32 := c.isLt
  unfold xc at hb
  match d with
  | ⟨0, _⟩ =>
    show 0 * 16384 + (i 0).val = (i 0).val
    omega
  | ⟨1, _⟩ =>
    show ((c.val / 16) % 2 * 1 + 0) * 1024 + (i 1).val = b.val
    omega

/-- From devices that hold the planes of `w`, the result on each is its columns of the sum of the two planes. -/
theorem sumA_eq (h : ∀ c : Dev nD, argOf m c = planeOf w c) (c : Dev nD) :
    sumA m c = colsOf c (Cert.ReferenceIdeal.Whole.planes w) := by
  funext i
  have hi0 : (i 0).val < 16384 := (i 0).isLt
  have hi1 : (i 1).val < 1024 := (i 1).isLt
  have hx := xc_lt c
  have e : ∀ d : Dev nD, ∀ x : Fin 2, x.val = xc d →
      (xV (xc c) (chunkOf i)).view.read (Elt Ideal) (argOf m d) (placeOf i) = w (ix3 x (i 0) ⟨xc c * 1024 + (i 1).val, by omega⟩) := by
    intro d x hd
    rw [h d]
    refine (read_half (xc c) (chunkOf i) (planeOf w d) (placeOf i) (i 0) ⟨xc c * 1024 + (i 1).val, by omega⟩ ?_ ?_).trans
      (planeOf_apply w d x hd _ _)
    · show (i 0).val = (i 0).val / 1024 * 1024 + (i 0).val % 1024
      omega
    · show xc c * 1024 + (i 1).val = xc c % 2 * 1024 + (i 1).val
      omega
  rw [colsOf_apply c _ i ⟨xc c * 1024 + (i 1).val, by omega⟩ rfl]
  show Gen.k0_pay1 (F := Ideal) (ownB m c (chunkOf i)) (inB m c (chunkOf i)) (placeOf i) = _
  rw [pay_apply]
  unfold ownB inB
  rw [e c ⟨xc c, hx⟩ rfl, e (devAt (xc c + 1) (chunkOf i)) ⟨(xc c + 1) % 2, by omega⟩ (xc_devAt _ _).symm]
  have h2 : xc c = 0 ∨ xc c = 1 := by omega
  show _ = (show EReal from w (ix3 0 (i 0) _)) + (show EReal from w (ix3 1 (i 0) _))
  rcases h2 with h2 | h2
  · rw [show (⟨xc c, hx⟩ : Fin 2) = 0 from Fin.ext h2, show (⟨(xc c + 1) % 2, by omega⟩ : Fin 2) = 1 from Fin.ext (by show (xc c + 1) % 2 = 1; omega)]
    rfl
  · rw [show (⟨xc c, hx⟩ : Fin 2) = 1 from Fin.ext h2, show (⟨(xc c + 1) % 2, by omega⟩ : Fin 2) = 0 from Fin.ext (by show (xc c + 1) % 2 = 0; omega)]
    exact add_comm _ _

end Cert.KernelIdeal.Ring

end
-- ==== Proof.lean ====
/- The claims, from the runs. The kernel's program and its ideal reading have the same text (Proof/Same.lean), so one
   run, over any float values (Proof/Run.lean), gives both frames; the reference's run is Proof/Ref.lean's; Proof/Value.lean says that what the
   devices end with is their part of what the reference ends with. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Same
public import proofs.«01_k».proof.Proof.Value

@[expose] public section

noncomputable section

namespace Cert.Proof

open Idealize.ShloMosaic Idealize.SL.Sem

/-- The kernel runs, at the machine's floats, and leaves its argument unchanged and every counter at zero. -/
theorem frame_kernel : Cert.quiescent_Kernel := fun m ρ _ =>
  run_of_eq defs_eq main_eq
    ((θ_run Cert.KernelIdeal.defs _ _).mono (fun _ h => ⟨fun c => (h.1 c).1, h.2⟩) (Cert.KernelIdeal.Ring.run_main (F := Bits) m ρ))

/-- It does so at the ideal instance too. -/
theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

/-- The reference runs, leaving its argument unchanged and every counter at zero. -/
theorem frame_reference : Cert.quiescent_ReferenceIdeal := fun m ρ _ =>
  (θ_run Cert.ReferenceIdeal.defs _ _).mono (fun _ h => ⟨fun c => (h.1 c).2, h.2⟩) (Cert.ReferenceIdeal.Whole.run_main m ρ)

/-- At the ideal instance the devices end holding their columns of the sum the reference computes of the whole array. -/
theorem value : Cert.algebraic_KernelIdeal_ReferenceIdeal := fun m ρ m' ρ' _ hm =>
  ⟨Cert.ReferenceIdeal.Whole.planes (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c).2).trans (Cert.KernelIdeal.Ring.sumA_eq m _ hm c), (h.1 c).1⟩) (Cert.KernelIdeal.Ring.run_main (F := Ideal) m ρ),
    (θ_run Cert.ReferenceIdeal.defs _ _).mono (fun _ h => h.1 0) (Cert.ReferenceIdeal.Whole.run_main m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, value⟩

end Cert.Proof

end
